-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackReferenceIdeal (m : (ℓ : Loc Cert.PackReferenceIdeal.nD Cert.PackReferenceIdeal.τ Cert.PackReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0)
      ∧ r.2.mem ((c.tc : Thread Cert.Pack.nD Cert.Pack.τ).loc Cert.Pack.main_arg1) = m ((c.tc : Thread Cert.Pack.nD Cert.Pack.τ).loc Cert.Pack.main_arg1))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0)
      ∧ r.2.mem ((c.tc : Thread Cert.PackIdeal.nD Cert.PackIdeal.τ).loc Cert.PackIdeal.main_arg1) = m ((c.tc : Thread Cert.PackIdeal.nD Cert.PackIdeal.τ).loc Cert.PackIdeal.main_arg1))
      ∧ r.2.sem = fun _ => 0)

def quiescent_PackReferenceIdeal [hPackReferenceIdeal : Cert.PackReferenceIdeal.Facts] : Prop :=
  ∀ (m : (ℓ : Loc Cert.PackReferenceIdeal.nD Cert.PackReferenceIdeal.τ Cert.PackReferenceIdeal.sig) → Buf (Elt Ideal) ℓ) (g : Dev Cert.PackReferenceIdeal.nD → PrngReg), Pre_PackReferenceIdeal m →
    θ_run (Cert.PackReferenceIdeal.defs (F := Ideal)) (onTc (τ := Cert.PackReferenceIdeal.τ) (Cert.PackReferenceIdeal.main (F := Ideal))) ⟨m, fun _ => 0, g⟩ (fun r => (∀ c : Dev Cert.PackReferenceIdeal.nD,
      r.2.mem ((c.tc : Thread Cert.PackReferenceIdeal.nD Cert.PackReferenceIdeal.τ).loc Cert.PackReferenceIdeal.main_arg0) = m ((c.tc : Thread Cert.PackReferenceIdeal.nD Cert.PackReferenceIdeal.τ).loc Cert.PackReferenceIdeal.main_arg0)
      ∧ r.2.mem ((c.tc : Thread Cert.PackReferenceIdeal.nD Cert.PackReferenceIdeal.τ).loc Cert.PackReferenceIdeal.main_arg1) = m ((c.tc : Thread Cert.PackReferenceIdeal.nD Cert.PackReferenceIdeal.τ).loc Cert.PackReferenceIdeal.main_arg1))
      ∧ r.2.sem = fun _ => 0)

def preserves_Kernel_KernelIdeal : Prop :=
  IdealRules.bf16_pair.BufferStatement Cert.KernelIdeal.S32768x2x128 Cert.KernelIdeal.S32768x1x128
  ∧ IdealRules.bf16_pair.BufferStatement Cert.KernelIdeal.S2048x2x128 Cert.KernelIdeal.S2048x1x128
  ∧ IdealRules.bf16_pair.HalfStatement Cert.KernelIdeal.S256x128
  ∧ IdealRules.bf16_pair.Statement Cert.KernelIdeal.S256x2x128 Cert.KernelIdeal.S256x1x128

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Pack_PackIdeal : Prop :=
  True

def algebraic_PackIdeal_PackReferenceIdeal [hPackIdeal : Cert.PackIdeal.Facts] [hPackReferenceIdeal : Cert.PackReferenceIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackReferenceIdeal.nD Cert.PackReferenceIdeal.τ Cert.PackReferenceIdeal.sig) → Buf (Elt Ideal) ℓ) (g' : Dev Cert.PackReferenceIdeal.nD → PrngReg), Pre_PackIdeal m →
    (∀ c : Dev Cert.PackIdeal.nD,
      m' ((c.tc : Thread Cert.PackReferenceIdeal.nD Cert.PackReferenceIdeal.τ).loc Cert.PackReferenceIdeal.main_arg0) = m ((c.tc : Thread Cert.PackIdeal.nD Cert.PackIdeal.τ).loc Cert.PackIdeal.main_arg0)
      ∧ m' ((c.tc : Thread Cert.PackReferenceIdeal.nD Cert.PackReferenceIdeal.τ).loc Cert.PackReferenceIdeal.main_arg1) = m ((c.tc : Thread Cert.PackIdeal.nD Cert.PackIdeal.τ).loc Cert.PackIdeal.main_arg1)) →
    ∃ (v0 : (c : Dev Cert.PackIdeal.nD) → Buf (Elt Ideal) ((c.tc : Thread Cert.PackIdeal.nD Cert.PackIdeal.τ).loc Cert.PackIdeal.main_v0)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v0) = v0 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0)
          ∧ r.2.mem ((c.tc : Thread Cert.PackIdeal.nD Cert.PackIdeal.τ).loc Cert.PackIdeal.main_arg1) = m ((c.tc : Thread Cert.PackIdeal.nD Cert.PackIdeal.τ).loc Cert.PackIdeal.main_arg1))
      ∧ θ_run (Cert.PackReferenceIdeal.defs (F := Ideal)) (onTc (τ := Cert.PackReferenceIdeal.τ) (Cert.PackReferenceIdeal.main (F := Ideal))) ⟨m', fun _ => 0, g'⟩ (fun r => ∀ c : Dev Cert.PackReferenceIdeal.nD,
          r.2.mem ((c.tc : Thread Cert.PackReferenceIdeal.nD Cert.PackReferenceIdeal.τ).loc Cert.PackReferenceIdeal.main_v107) = v0 c
          ∧ r.2.mem ((c.tc : Thread Cert.PackReferenceIdeal.nD Cert.PackReferenceIdeal.τ).loc Cert.PackReferenceIdeal.main_arg0) = m' ((c.tc : Thread Cert.PackReferenceIdeal.nD Cert.PackReferenceIdeal.τ).loc Cert.PackReferenceIdeal.main_arg0)
          ∧ r.2.mem ((c.tc : Thread Cert.PackReferenceIdeal.nD Cert.PackReferenceIdeal.τ).loc Cert.PackReferenceIdeal.main_arg1) = m' ((c.tc : Thread Cert.PackReferenceIdeal.nD Cert.PackReferenceIdeal.τ).loc Cert.PackReferenceIdeal.main_arg1))

def Claim : Prop :=
  ∃ (hKernel : Cert.Kernel.Facts) (hKernelIdeal : Cert.KernelIdeal.Facts) (hReferenceIdeal : Cert.ReferenceIdeal.Facts) (hPack : Cert.Pack.Facts) (hPackIdeal : Cert.PackIdeal.Facts) (hPackReferenceIdeal : Cert.PackReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Pack (hPack := hPack)
    ∧ quiescent_PackIdeal (hPackIdeal := hPackIdeal)
    ∧ quiescent_PackReferenceIdeal (hPackReferenceIdeal := hPackReferenceIdeal)
    ∧ preserves_Kernel_KernelIdeal
    ∧ algebraic_KernelIdeal_ReferenceIdeal_pre_pre (hKernelIdeal := hKernelIdeal) (hReferenceIdeal := hReferenceIdeal) (hPre_pre := hPre_pre)
    ∧ preserves_Pack_PackIdeal
    ∧ algebraic_PackIdeal_PackReferenceIdeal (hPackIdeal := hPackIdeal) (hPackReferenceIdeal := hPackReferenceIdeal)
-- ==== Pre_pre.lean ====
abbrev S4x1024x1536 : Shape := ⟨3, ![4, 1024, 1536]⟩
abbrev S1536x8x192 : Shape := ⟨3, ![1536, 8, 192]⟩
abbrev S8x2x448x96 : Shape := ⟨4, ![8, 2, 448, 96]⟩
abbrev S4x1024x8x16 : Shape := ⟨4, ![4, 1024, 8, 16]⟩
abbrev S_ : Shape := ⟨0, ![]⟩

class Facts : Prop where
  bcast_S_S4x1024x8x16 : S_.BroadcastsInDim S4x1024x8x16 (![] : Fin 0 → Fin S4x1024x8x16.rank)
  reducesTo_S4x1024x8x16_S_d0_1_2_3 : S4x1024x8x16.ReducesTo [0, 1, 2, 3] S_
  h_S_ : 0 < S_.numel

variable [Facts]

def fn {F : FTy → Type} [FloatOps F] (main_arg0 : FVec F S4x1024x1536 .bf16) (main_arg1 : FVec F S1536x8x192 .bf16) (main_arg2 : FVec F S8x2x448x96 .bf16) (main_arg3 : IVec S4x1024x8x16 32) (main_arg4 : IVec S4x1024x8x16 32) : IVec S_ 1 :=
  let main_c : IVec S_ 32 := constantI S_ 32 0#32
  let main_v0 : IVec S4x1024x8x16 32 := broadcastInDim S4x1024x8x16 ![] bcast_S_S4x1024x8x16 main_c
  let main_v1 : IVec S4x1024x8x16 1 := cmpi .sge main_arg3 main_v0
  let main_c_0 : IVec S_ 32 := constantI S_ 32 448#32
  let main_v2 : IVec S4x1024x8x16 32 := broadcastInDim S4x1024x8x16 ![] bcast_S_S4x1024x8x16 main_c_0
  let main_v3 : IVec S4x1024x8x16 1 := cmpi .slt main_arg3 main_v2
  let main_v4 : IVec S4x1024x8x16 1 := andi main_v1 main_v3
  let main_c_1 : IVec S_ 32 := constantI S_ 32 0#32
  let main_v5 : IVec S4x1024x8x16 32 := broadcastInDim S4x1024x8x16 ![] bcast_S_S4x1024x8x16 main_c_1
  let main_v6 : IVec S4x1024x8x16 1 := cmpi .sge main_arg4 main_v5
  let main_v7 : IVec S4x1024x8x16 1 := andi main_v4 main_v6
  let main_c_2 : IVec S_ 32 := constantI S_ 32 448#32
  let main_v8 : IVec S4x1024x8x16 32 := broadcastInDim S4x1024x8x16 ![] bcast_S_S4x1024x8x16 main_c_2
  let main_v9 : IVec S4x1024x8x16 1 := cmpi .slt main_arg4 main_v8
  let main_v10 : IVec S4x1024x8x16 1 := andi main_v7 main_v9
  let main_c_3 : IVec S_ 1 := constantI S_ 1 1#1
  let main_v11 : IVec S_ 1 := (fun x v => Host.reduce IntOp.andi x v reducesTo_S4x1024x8x16_S_d0_1_2_3 h_S_) main_v10 main_c_3
  main_v11
-- ==== Kernel.lean ====
abbrev S4x1024x1536 : Shape := ⟨3, ![4, 1024, 1536]⟩
abbrev S1536x8x192 : Shape := ⟨3, ![1536, 8, 192]⟩
abbrev S8x2x448x96 : Shape := ⟨4, ![8, 2, 448, 96]⟩
abbrev S4x1024x8x16 : Shape := ⟨4, ![4, 1024, 8, 16]⟩
abbrev S4x8x16x1024 : Shape := ⟨4, ![4, 8, 16, 1024]⟩
abbrev S4x128x1024 : Shape := ⟨3, ![4, 128, 1024]⟩
abbrev S4096x1536 : Shape := ⟨2, ![4096, 1536]⟩
abbrev S8x192x1536 : Shape := ⟨3, ![8, 192, 1536]⟩
abbrev S16x96x1536 : Shape := ⟨3, ![16, 96, 1536]⟩
abbrev S_ : Shape := ⟨0, ![]⟩
abbrev S16x128x1536 : Shape := ⟨3, ![16, 128, 1536]⟩
abbrev S2048x1536 : Shape := ⟨2, ![2048, 1536]⟩
abbrev S8x2x96x448 : Shape := ⟨4, ![8, 2, 96, 448]⟩
abbrev S16x96x448 : Shape := ⟨3, ![16, 96, 448]⟩
abbrev S16x128x512 : Shape := ⟨3, ![16, 128, 512]⟩
abbrev S4096x128 : Shape := ⟨2, ![4096, 128]⟩
abbrev S32768x128 : Shape := ⟨2, ![32768, 128]⟩
abbrev S256x1536 : Shape := ⟨2, ![256, 1536]⟩
abbrev S1x128x256 : Shape := ⟨3, ![1, 128, 256]⟩
abbrev S256x128 : Shape := ⟨2, ![256, 128]⟩
abbrev S2048x128 : Shape := ⟨2, ![2048, 128]⟩
abbrev S256x2048 : Shape := ⟨2, ![256, 2048]⟩
abbrev S128x256 : Shape := ⟨2, ![128, 256]⟩
abbrev S1x128x512 : Shape := ⟨3, ![1, 128, 512]⟩
abbrev S128x512 : Shape := ⟨2, ![128, 512]⟩
abbrev S256x512 : Shape := ⟨2, ![256, 512]⟩
abbrev S256x128x1 : Shape := ⟨3, ![256, 128, 1]⟩

abbrev nBuf : Space → Nat
  | .hbm => 27
  | .vmem => 17
  | .smem => 0
  | _ => 0

abbrev bufTy : (tb : Table) → Fin (tcTables nBuf tb) → BufTy
  | .hbm, ⟨0, _⟩ => ⟨S4x1024x1536, .bf16⟩
  | .hbm, ⟨1, _⟩ => ⟨S1536x8x192, .bf16⟩
  | .hbm, ⟨2, _⟩ => ⟨S8x2x448x96, .bf16⟩
  | .hbm, ⟨3, _⟩ => ⟨S4x1024x8x16, .i32⟩
  | .hbm, ⟨4, _⟩ => ⟨S4x1024x8x16, .i32⟩
  | .hbm, ⟨5, _⟩ => ⟨S4x8x16x1024, .i32⟩
  | .hbm, ⟨6, _⟩ => ⟨S4x128x1024, .i32⟩
  | .hbm, ⟨7, _⟩ => ⟨S4x8x16x1024, .i32⟩
  | .hbm, ⟨8, _⟩ => ⟨S4x128x1024, .i32⟩
  | .hbm, ⟨9, _⟩ => ⟨S4096x1536, .bf16⟩
  | .hbm, ⟨10, _⟩ => ⟨S8x192x1536, .bf16⟩
  | .hbm, ⟨11, _⟩ => ⟨S16x96x1536, .bf16⟩
  | .hbm, ⟨12, _⟩ => ⟨S_, .i32⟩
  | .hbm, ⟨13, _⟩ => ⟨S_, .bf16⟩
  | .hbm, ⟨14, _⟩ => ⟨S16x128x1536, .bf16⟩
  | .hbm, ⟨15, _⟩ => ⟨S2048x1536, .bf16⟩
  | .hbm, ⟨16, _⟩ => ⟨S8x2x96x448, .bf16⟩
  | .hbm, ⟨17, _⟩ => ⟨S16x96x448, .bf16⟩
  | .hbm, ⟨18, _⟩ => ⟨S_, .i32⟩
  | .hbm, ⟨19, _⟩ => ⟨S_, .bf16⟩
  | .hbm, ⟨20, _⟩ => ⟨S16x128x512, .bf16⟩
  | .hbm, ⟨21, _⟩ => ⟨S4096x128, .i32⟩
  | .hbm, ⟨22, _⟩ => ⟨S4096x128, .f32⟩
  | .hbm, ⟨23, _⟩ => ⟨S4x128x1024, .f32⟩
  | .hbm, ⟨24, _⟩ => ⟨S32768x128, .i32⟩
  | .hbm, ⟨25, _⟩ => ⟨S4x8x16x1024, .f32⟩
  | .hbm, ⟨26, _⟩ => ⟨S4x1024x8x16, .f32⟩
  | .local _ .vmem, ⟨0, _⟩ => ⟨S256x1536, .bf16⟩
  | .local _ .vmem, ⟨1, _⟩ => ⟨S256x1536, .bf16⟩
  | .local _ .vmem, ⟨2, _⟩ => ⟨S2048x1536, .bf16⟩
  | .local _ .vmem, ⟨3, _⟩ => ⟨S16x128x512, .bf16⟩
  | .local _ .vmem, ⟨4, _⟩ => ⟨S1x128x256, .i32⟩
  | .local _ .vmem, ⟨5, _⟩ => ⟨S1x128x256, .i32⟩
  | .local _ .vmem, ⟨6, _⟩ => ⟨S1x128x256, .i32⟩
  | .local _ .vmem, ⟨7, _⟩ => ⟨S1x128x256, .i32⟩
  | .local _ .vmem, ⟨8, _⟩ => ⟨S256x128, .i32⟩
  | .local _ .vmem, ⟨9, _⟩ => ⟨S256x128, .i32⟩
  | .local _ .vmem, ⟨10, _⟩ => ⟨S256x128, .f32⟩
  | .local _ .vmem, ⟨11, _⟩ => ⟨S256x128, .f32⟩
  | .local _ .vmem, ⟨12, _⟩ => ⟨S1x128x256, .f32⟩
  | .local _ .vmem, ⟨13, _⟩ => ⟨S1x128x256, .f32⟩
  | .local _ .vmem, ⟨14, _⟩ => ⟨S2048x128, .i32⟩
  | .local _ .vmem, ⟨15, _⟩ => ⟨S2048x128, .i32⟩
  | .local _ .vmem, ⟨16, _⟩ => ⟨S256x2048, .bf16⟩
  | _, _ => ⟨S4x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
abbrev S4x1024x1536 : Shape := ⟨3, ![4, 1024, 1536]⟩
abbrev S1536x8x192 : Shape := ⟨3, ![1536, 8, 192]⟩
abbrev S8x2x448x96 : Shape := ⟨4, ![8, 2, 448, 96]⟩
abbrev S4x1024x8x16 : Shape := ⟨4, ![4, 1024, 8, 16]⟩
abbrev S4x8x16x1024 : Shape := ⟨4, ![4, 8, 16, 1024]⟩
abbrev S4x128x1024 : Shape := ⟨3, ![4, 128, 1024]⟩
abbrev S4096x1536 : Shape := ⟨2, ![4096, 1536]⟩
abbrev S8x192x1536 : Shape := ⟨3, ![8, 192, 1536]⟩
abbrev S16x96x1536 : Shape := ⟨3, ![16, 96, 1536]⟩
abbrev S_ : Shape := ⟨0, ![]⟩
abbrev S16x128x1536 : Shape := ⟨3, ![16, 128, 1536]⟩
abbrev S2048x1536 : Shape := ⟨2, ![2048, 1536]⟩
abbrev S8x2x96x448 : Shape := ⟨4, ![8, 2, 96, 448]⟩
abbrev S16x96x448 : Shape := ⟨3, ![16, 96, 448]⟩
abbrev S16x128x512 : Shape := ⟨3, ![16, 128, 512]⟩
abbrev S4096x128 : Shape := ⟨2, ![4096, 128]⟩
abbrev S32768x2x128 : Shape := ⟨3, ![32768, 2, 128]⟩
abbrev S32768x1x128 : Shape := ⟨3, ![32768, 1, 128]⟩
abbrev S32768x128 : Shape := ⟨2, ![32768, 128]⟩
abbrev S256x1536 : Shape := ⟨2, ![256, 1536]⟩
abbrev S1x128x256 : Shape := ⟨3, ![1, 128, 256]⟩
abbrev S256x128 : Shape := ⟨2, ![256, 128]⟩
abbrev S2048x128 : Shape := ⟨2, ![2048, 128]⟩
abbrev S2048x2x128 : Shape := ⟨3, ![2048, 2, 128]⟩
abbrev S2048x1x128 : Shape := ⟨3, ![2048, 1, 128]⟩
abbrev S256x2048 : Shape := ⟨2, ![256, 2048]⟩
abbrev S256x2x128 : Shape := ⟨3, ![256, 2, 128]⟩
abbrev S256x1x128 : Shape := ⟨3, ![256, 1, 128]⟩
abbrev S128x256 : Shape := ⟨2, ![128, 256]⟩
abbrev S1x128x512 : Shape := ⟨3, ![1, 128, 512]⟩
abbrev S128x512 : Shape := ⟨2, ![128, 512]⟩
abbrev S256x512 : Shape := ⟨2, ![256, 512]⟩
abbrev S256x128x1 : Shape := ⟨3, ![256, 128, 1]⟩

abbrev nBuf : Space → Nat
  | .hbm => 27
  | .vmem => 17
  | .smem => 0
  | _ => 0

abbrev bufTy : (tb : Table) → Fin (tcTables nBuf tb) → BufTy
  | .hbm, ⟨0, _⟩ => ⟨S4x1024x1536, .bf16⟩
  | .hbm, ⟨1, _⟩ => ⟨S1536x8x192, .bf16⟩
  | .hbm, ⟨2, _⟩ => ⟨S8x2x448x96, .bf16⟩
  | .hbm, ⟨3, _⟩ => ⟨S4x1024x8x16, .i32⟩
  | .hbm, ⟨4, _⟩ => ⟨S4x1024x8x16, .i32⟩
  | .hbm, ⟨5, _⟩ => ⟨S4x8x16x1024, .i32⟩
  | .hbm, ⟨6, _⟩ => ⟨S4x128x1024, .i32⟩
  | .hbm, ⟨7, _⟩ => ⟨S4x8x16x1024, .i32⟩
  | .hbm, ⟨8, _⟩ => ⟨S4x128x1024, .i32⟩
  | .hbm, ⟨9, _⟩ => ⟨S4096x1536, .bf16⟩
  | .hbm, ⟨10, _⟩ => ⟨S8x192x1536, .bf16⟩
  | .hbm, ⟨11, _⟩ => ⟨S16x96x1536, .bf16⟩
  | .hbm, ⟨12, _⟩ => ⟨S_, .i32⟩
  | .hbm, ⟨13, _⟩ => ⟨S_, .bf16⟩
  | .hbm, ⟨14, _⟩ => ⟨S16x128x1536, .bf16⟩
  | .hbm, ⟨15, _⟩ => ⟨S2048x1536, .bf16⟩
  | .hbm, ⟨16, _⟩ => ⟨S8x2x96x448, .bf16⟩
  | .hbm, ⟨17, _⟩ => ⟨S16x96x448, .bf16⟩
  | .hbm, ⟨18, _⟩ => ⟨S_, .i32⟩
  | .hbm, ⟨19, _⟩ => ⟨S_, .bf16⟩
  | .hbm, ⟨20, _⟩ => ⟨S16x128x512, .bf16⟩
  | .hbm, ⟨21, _⟩ => ⟨S4096x128, .i32⟩
  | .hbm, ⟨22, _⟩ => ⟨S4096x128, .f32⟩
  | .hbm, ⟨23, _⟩ => ⟨S4x128x1024, .f32⟩
  | .hbm, ⟨24, _⟩ => ⟨S32768x2x128, .bf16⟩
  | .hbm, ⟨25, _⟩ => ⟨S4x8x16x1024, .f32⟩
  | .hbm, ⟨26, _⟩ => ⟨S4x1024x8x16, .f32⟩
  | .local _ .vmem, ⟨0, _⟩ => ⟨S256x1536, .bf16⟩
  | .local _ .vmem, ⟨1, _⟩ => ⟨S256x1536, .bf16⟩
  | .local _ .vmem, ⟨2, _⟩ => ⟨S2048x1536, .bf16⟩
  | .local _ .vmem, ⟨3, _⟩ => ⟨S16x128x512, .bf16⟩
  | .local _ .vmem, ⟨4, _⟩ => ⟨S1x128x256, .i32⟩
  | .local _ .vmem, ⟨5, _⟩ => ⟨S1x128x256, .i32⟩
  | .local _ .vmem, ⟨6, _⟩ => ⟨S1x128x256, .i32⟩
  | .local _ .vmem, ⟨7, _⟩ => ⟨S1x128x256, .i32⟩
  | .local _ .vmem, ⟨8, _⟩ => ⟨S256x128, .i32⟩
  | .local _ .vmem, ⟨9, _⟩ => ⟨S256x128, .i32⟩
  | .local _ .vmem, ⟨10, _⟩ => ⟨S256x128, .f32⟩
  | .local _ .vmem, ⟨11, _⟩ => ⟨S256x128, .f32⟩
  | .local _ .vmem, ⟨12, _⟩ => ⟨S1x128x256, .f32⟩
  | .local _ .vmem, ⟨13, _⟩ => ⟨S1x128x256, .f32⟩
  | .local _ .vmem, ⟨14, _⟩ => ⟨S2048x2x128, .bf16⟩
  | .local _ .vmem, ⟨15, _⟩ => ⟨S2048x2x128, .bf16⟩
  | .local _ .vmem, ⟨16, _⟩ => ⟨S256x2048, .bf16⟩
  | _, _ => ⟨S4x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x2x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x1024x1536 : Shape := ⟨3, ![4, 1024, 1536]⟩
abbrev S1536x8x192 : Shape := ⟨3, ![1536, 8, 192]⟩
abbrev S8x2x448x96 : Shape := ⟨4, ![8, 2, 448, 96]⟩
abbrev S4x1024x8x16 : Shape := ⟨4, ![4, 1024, 8, 16]⟩
abbrev S4x1024x8x192 : Shape := ⟨4, ![4, 1024, 8, 192]⟩
abbrev S4x1024x8x96 : Shape := ⟨4, ![4, 1024, 8, 96]⟩
abbrev S8x1x448x96 : Shape := ⟨4, ![8, 1, 448, 96]⟩
abbrev S8x448x96 : Shape := ⟨3, ![8, 448, 96]⟩
abbrev S8x448x4x1024 : Shape := ⟨4, ![8, 448, 4, 1024]⟩
abbrev S4x1024x8x448 : Shape := ⟨4, ![4, 1024, 8, 448]⟩
abbrev S_ : Shape := ⟨0, ![]⟩
abbrev S4x1024x8x16x1 : Shape := ⟨5, ![4, 1024, 8, 16, 1]⟩
abbrev S1 : Shape := ⟨1, ![1]⟩
abbrev S1x1x1x1x1 : Shape := ⟨5, ![1, 1, 1, 1, 1]⟩
abbrev S4x1024x8 : Shape := ⟨3, ![4, 1024, 8]⟩
abbrev S4x1024x8x1 : Shape := ⟨4, ![4, 1024, 8, 1]⟩
abbrev S4096x128 : Shape := ⟨2, ![4096, 128]⟩

abbrev nBuf : Space → Nat
  | .hbm => 82
  | .vmem => 0
  | .smem => 0
  | _ => 0

abbrev bufTy : (tb : Table) → Fin (tcTables nBuf tb) → BufTy
  | .hbm, ⟨0, _⟩ => ⟨S4x1024x1536, .bf16⟩
  | .hbm, ⟨1, _⟩ => ⟨S1536x8x192, .bf16⟩
  | .hbm, ⟨2, _⟩ => ⟨S8x2x448x96, .bf16⟩
  | .hbm, ⟨3, _⟩ => ⟨S4x1024x8x16, .i32⟩
  | .hbm, ⟨4, _⟩ => ⟨S4x1024x8x16, .i32⟩
  | .hbm, ⟨5, _⟩ => ⟨S4x1024x8x192, .f32⟩
  | .hbm, ⟨6, _⟩ => ⟨S4x1024x8x192, .bf16⟩
  | .hbm, ⟨7, _⟩ => ⟨S4x1024x8x96, .bf16⟩
  | .hbm, ⟨8, _⟩ => ⟨S4x1024x8x96, .bf16⟩
  | .hbm, ⟨9, _⟩ => ⟨S8x1x448x96, .bf16⟩
  | .hbm, ⟨10, _⟩ => ⟨S8x448x96, .bf16⟩
  | .hbm, ⟨11, _⟩ => ⟨S8x448x4x1024, .f32⟩
  | .hbm, ⟨12, _⟩ => ⟨S4x1024x8x448, .f32⟩
  | .hbm, ⟨13, _⟩ => ⟨S8x1x448x96, .bf16⟩
  | .hbm, ⟨14, _⟩ => ⟨S8x448x96, .bf16⟩
  | .hbm, ⟨15, _⟩ => ⟨S8x448x4x1024, .f32⟩
  | .hbm, ⟨16, _⟩ => ⟨S4x1024x8x448, .f32⟩
  | .hbm, ⟨17, _⟩ => ⟨S_, .i32⟩
  | .hbm, ⟨18, _⟩ => ⟨S4x1024x8x16, .i32⟩
  | .hbm, ⟨19, _⟩ => ⟨S4x1024x8x16, .i1⟩
  | .hbm, ⟨20, _⟩ => ⟨S_, .i32⟩
  | .hbm, ⟨21, _⟩ => ⟨S4x1024x8x16, .i32⟩
  | .hbm, ⟨22, _⟩ => ⟨S4x1024x8x16, .i32⟩
  | .hbm, ⟨23, _⟩ => ⟨S4x1024x8x16, .i32⟩
  | .hbm, ⟨24, _⟩ => ⟨S4x1024x8x16x1, .i32⟩
  | .hbm, ⟨25, _⟩ => ⟨S1, .i32⟩
  | .hbm, ⟨26, _⟩ => ⟨S_, .i32⟩
  | .hbm, ⟨27, _⟩ => ⟨S4x1024x8x16x1, .i32⟩
  | .hbm, ⟨28, _⟩ => ⟨S4x1024x8x16x1, .i1⟩
  | .hbm, ⟨29, _⟩ => ⟨S1x1x1x1x1, .i32⟩
  | .hbm, ⟨30, _⟩ => ⟨S4x1024x8x16x1, .i32⟩
  | .hbm, ⟨31, _⟩ => ⟨S4x1024x8x16x1, .i1⟩
  | .hbm, ⟨32, _⟩ => ⟨S4x1024x8x16x1, .i1⟩
  | .hbm, ⟨33, _⟩ => ⟨S_, .i1⟩
  | .hbm, ⟨34, _⟩ => ⟨S4x1024x8x16, .i1⟩
  | .hbm, ⟨35, _⟩ => ⟨S4x1024x8x16, .f32⟩
  | .hbm, ⟨36, _⟩ => ⟨S_, .f32⟩
  | .hbm, ⟨37, _⟩ => ⟨S4x1024x8x16, .f32⟩
  | .hbm, ⟨38, _⟩ => ⟨S4x1024x8x16, .f32⟩
  | .hbm, ⟨39, _⟩ => ⟨S_, .i32⟩
  | .hbm, ⟨40, _⟩ => ⟨S4x1024x8x16, .i32⟩
  | .hbm, ⟨41, _⟩ => ⟨S4x1024x8x16, .i1⟩
  | .hbm, ⟨42, _⟩ => ⟨S_, .i32⟩
  | .hbm, ⟨43, _⟩ => ⟨S4x1024x8x16, .i32⟩
  | .hbm, ⟨44, _⟩ => ⟨S4x1024x8x16, .i32⟩
  | .hbm, ⟨45, _⟩ => ⟨S4x1024x8x16, .i32⟩
  | .hbm, ⟨46, _⟩ => ⟨S4x1024x8x16x1, .i32⟩
  | .hbm, ⟨47, _⟩ => ⟨S1, .i32⟩
  | .hbm, ⟨48, _⟩ => ⟨S_, .i32⟩
  | .hbm, ⟨49, _⟩ => ⟨S4x1024x8x16x1, .i32⟩
  | .hbm, ⟨50, _⟩ => ⟨S4x1024x8x16x1, .i1⟩
  | .hbm, ⟨51, _⟩ => ⟨S1x1x1x1x1, .i32⟩
  | .hbm, ⟨52, _⟩ => ⟨S4x1024x8x16x1, .i32⟩
  | .hbm, ⟨53, _⟩ => ⟨S4x1024x8x16x1, .i1⟩
  | .hbm, ⟨54, _⟩ => ⟨S4x1024x8x16x1, .i1⟩
  | .hbm, ⟨55, _⟩ => ⟨S_, .i1⟩
  | .hbm, ⟨56, _⟩ => ⟨S4x1024x8x16, .i1⟩
  | .hbm, ⟨57, _⟩ => ⟨S4x1024x8x16, .f32⟩
  | .hbm, ⟨58, _⟩ => ⟨S_, .f32⟩
  | .hbm, ⟨59, _⟩ => ⟨S4x1024x8x16, .f32⟩
  | .hbm, ⟨60, _⟩ => ⟨S4x1024x8x16, .f32⟩
  | .hbm, ⟨61, _⟩ => ⟨S4x1024x8x16, .f32⟩
  | .hbm, ⟨62, _⟩ => ⟨S_, .f32⟩
  | .hbm, ⟨63, _⟩ => ⟨S4x1024x8, .f32⟩
  | .hbm, ⟨64, _⟩ => ⟨S_, .f32⟩
  | .hbm, ⟨65, _⟩ => ⟨S4x1024x8, .f32⟩
  | .hbm, ⟨66, _⟩ => ⟨S4x1024x8, .f32⟩
  | .hbm, ⟨67, _⟩ => ⟨S4x1024x8x1, .f32⟩
  | .hbm, ⟨68, _⟩ => ⟨S4x1024x8x16, .f32⟩
  | .hbm, ⟨69, _⟩ => ⟨S4x1024x8x16, .f32⟩
  | .hbm, ⟨70, _⟩ => ⟨S4x1024x8x16, .f32⟩
  | .hbm, ⟨71, _⟩ => ⟨S_, .f32⟩
  | .hbm, ⟨72, _⟩ => ⟨S4x1024x8, .f32⟩
  | .hbm, ⟨73, _⟩ => ⟨S4x1024x8x1, .f32⟩
  | .hbm, ⟨74, _⟩ => ⟨S4x1024x8x16, .f32⟩
  | .hbm, ⟨75, _⟩ => ⟨S4x1024x8x16, .f32⟩
  | .hbm, ⟨76, _⟩ => ⟨S_, .i32⟩
  | .hbm, ⟨77, _⟩ => ⟨S4x1024x8x16, .i32⟩
  | .hbm, ⟨78, _⟩ => ⟨S4x1024x8x16, .i32⟩
  | .hbm, ⟨79, _⟩ => ⟨S4x1024x8x16, .i32⟩
  | .hbm, ⟨80, _⟩ => ⟨S4096x128, .i32⟩
  | .hbm, ⟨81, _⟩ => ⟨S4096x128, .f32⟩
  | _, _ => ⟨S4x1024x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v12 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_cst : Ref sig .tc := ⟨.hbm, 58, rfl⟩
abbrev main_call1_v14 : Ref sig .tc := ⟨.hbm, 59, rfl⟩
abbrev main_v13 : Ref sig .tc := ⟨.hbm, 60, rfl⟩
abbrev main_v14 : Ref sig .tc := ⟨.hbm, 61, rfl⟩
abbrev main_cst : Ref sig .tc := ⟨.hbm, 62, rfl⟩
abbrev main_v15 : Ref sig .tc := ⟨.hbm, 63, rfl⟩
abbrev main_cst_0 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_cst_1 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_c : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩

abbrev nD : Nat := 1
abbrev τ : Topo := Topo.v7x

variable {F : FTy → Type} [FloatOps F]
-- ==== Pack.lean ====
abbrev S200704x1536 : Shape := ⟨2, ![200704, 1536]⟩
abbrev S1204224x128 : Shape := ⟨2, ![1204224, 128]⟩
abbrev S2048x1536 : Shape := ⟨2, ![2048, 1536]⟩
abbrev S12288x128 : Shape := ⟨2, ![12288, 128]⟩
abbrev S32x128 : Shape := ⟨2, ![32, 128]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S200704x1536, .i8⟩
  | .hbm, ⟨1, _⟩ => ⟨S200704x1536, .i8⟩
  | .hbm, ⟨2, _⟩ => ⟨S1204224x128, .i32⟩
  | .local _ .vmem, ⟨0, _⟩ => ⟨S2048x1536, .i8⟩
  | .local _ .vmem, ⟨1, _⟩ => ⟨S2048x1536, .i8⟩
  | .local _ .vmem, ⟨2, _⟩ => ⟨S2048x1536, .i8⟩
  | .local _ .vmem, ⟨3, _⟩ => ⟨S2048x1536, .i8⟩
  | .local _ .vmem, ⟨4, _⟩ => ⟨S12288x128, .i32⟩
  | .local _ .vmem, ⟨5, _⟩ => ⟨S12288x128, .i32⟩
  | _, _ => ⟨S200704x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![98], ![false]⟩

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32 : BitVec 32 := 32#32
  let v1 : BitVec 32 := Scalar.muli arg4 c32_i32
  v1
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32_i32 : BitVec 32 := 32#32
  let v1 : BitVec 32 := Scalar.muli arg4 c32_i32
  let v2 : BitVec 32 := v1
  let v3 : Index := Scalar.indexCast v2
  let c0 : Index := 0#32
  ![v3.toNat, 0]
def k0_mult2 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_1 : BitVec 32 := 32#32
  let v6 : BitVec 32 := Scalar.muli arg4 c32_i32_1
  v6
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32_i32_1 : BitVec 32 := 32#32
  let v6 : BitVec 32 := Scalar.muli arg4 c32_i32_1
  let v7 : BitVec 32 := v6
  let v8 : Index := Scalar.indexCast v7
  let c256 : Index := 256#32
  ![v8.toNat, 256]
def k0_mult3 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_2 : BitVec 32 := 32#32
  let v11 : BitVec 32 := Scalar.muli arg4 c32_i32_2
  v11
def k0_off3 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32_i32_2 : BitVec 32 := 32#32
  let v11 : BitVec 32 := Scalar.muli arg4 c32_i32_2
  let v12 : BitVec 32 := v11
  let v13 : Index := Scalar.indexCast v12
  let c512 : Index := 512#32
  ![v13.toNat, 512]
def k0_mult4 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_3 : BitVec 32 := 32#32
  let v16 : BitVec 32 := Scalar.muli arg4 c32_i32_3
  v16
def k0_off4 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32_i32_3 : BitVec 32 := 32#32
  let v16 : BitVec 32 := Scalar.muli arg4 c32_i32_3
  let v17 : BitVec 32 := v16
  let v18 : Index := Scalar.indexCast v17
  let c768 : Index := 768#32
  ![v18.toNat, 768]
def k0_off5 (k0_t1 : Fin k0_t1_loop.trips) (c0_i32_21 : BitVec 32) (c0_i32_22 : BitVec 32) (c0_i32_23 : BitVec 32) : Fin 2 → Nat :=
  let c0_i32 : BitVec 32 := 0#32
  let c1_i32 : BitVec 32 := 1#32
  let arg4 : BitVec 32 := Scf.iv c0_i32 c1_i32 k0_t1
  let c32_i32_20 : BitVec 32 := 32#32
  let v71 : BitVec 32 := Scalar.muli arg4 c32_i32_20
  let v72 : BitVec 32 := Scalar.addi v71 c0_i32_21
  let c6_i32 : BitVec 32 := 6#32
  let v73 : BitVec 32 := Scalar.muli v72 c6_i32
  let v74 : BitVec 32 := Scalar.addi v73 c0_i32_22
  let v75 : BitVec 32 := Scalar.addi v74 c0_i32_23
  let v76 : Index := Scalar.indexCast v75
  let c0_24 : Index := 0#32
  ![v76.toNat, 0]
def k0_mult5 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_41 : BitVec 32 := 32#32
  let v99 : BitVec 32 := Scalar.muli arg4 c32_i32_41
  v99
def k0_off6 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32_i32_41 : BitVec 32 := 32#32
  let v99 : BitVec 32 := Scalar.muli arg4 c32_i32_41
  let v100 : BitVec 32 := v99
  let v101 : Index := Scalar.indexCast v100
  let c128 : Index := 128#32
  ![v101.toNat, 128]
def k0_mult6 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_42 : BitVec 32 := 32#32
  let v104 : BitVec 32 := Scalar.muli arg4 c32_i32_42
  v104
def k0_off7 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32_i32_42 : BitVec 32 := 32#32
  let v104 : BitVec 32 := Scalar.muli arg4 c32_i32_42
  let v105 : BitVec 32 := v104
  let v106 : Index := Scalar.indexCast v105
  let c384 : Index := 384#32
  ![v106.toNat, 384]
def k0_mult7 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_43 : BitVec 32 := 32#32
  let v109 : BitVec 32 := Scalar.muli arg4 c32_i32_43
  v109
def k0_off8 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32_i32_43 : BitVec 32 := 32#32
  let v109 : BitVec 32 := Scalar.muli arg4 c32_i32_43
  let v110 : BitVec 32 := v109
  let v111 : Index := Scalar.indexCast v110
  let c640 : Index := 640#32
  ![v111.toNat, 640]
def k0_mult8 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_44 : BitVec 32 := 32#32
  let v114 : BitVec 32 := Scalar.muli arg4 c32_i32_44
  v114
def k0_off9 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32_i32_44 : BitVec 32 := 32#32
  let v114 : BitVec 32 := Scalar.muli arg4 c32_i32_44
  let v115 : BitVec 32 := v114
  let v116 : Index := Scalar.indexCast v115
  let c896 : Index := 896#32
  ![v116.toNat, 896]
def k0_mult9 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_91 : BitVec 32 := 32#32
  let v197 : BitVec 32 := Scalar.muli arg4 c32_i32_91
  v197
def k0_off10 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32_i32_91 : BitVec 32 := 32#32
  let v197 : BitVec 32 := Scalar.muli arg4 c32_i32_91
  let v198 : BitVec 32 := v197
  let v199 : Index := Scalar.indexCast v198
  let c1024 : Index := 1024#32
  ![v199.toNat, 1024]
def k0_mult10 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_92 : BitVec 32 := 32#32
  let v202 : BitVec 32 := Scalar.muli arg4 c32_i32_92
  v202
def k0_off11 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32_i32_92 : BitVec 32 := 32#32
  let v202 : BitVec 32 := Scalar.muli arg4 c32_i32_92
  let v203 : BitVec 32 := v202
  let v204 : Index := Scalar.indexCast v203
  let c1152 : Index := 1152#32
  ![v204.toNat, 1152]
def k0_mult11 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_93 : BitVec 32 := 32#32
  let v207 : BitVec 32 := Scalar.muli arg4 c32_i32_93
  v207
def k0_off12 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32_i32_93 : BitVec 32 := 32#32
  let v207 : BitVec 32 := Scalar.muli arg4 c32_i32_93
  let v208 : BitVec 32 := v207
  let v209 : Index := Scalar.indexCast v208
  let c1280 : Index := 1280#32
  ![v209.toNat, 1280]
def k0_mult12 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_94 : BitVec 32 := 32#32
  let v212 : BitVec 32 := Scalar.muli arg4 c32_i32_94
  v212
def k0_off13 (k0_t1 : Fin k0_t1_loop.trips) : Fin 2 → Nat :=
  let c0_i32 : BitVec 32 := 0#32
  let c1_i32 : BitVec 32 := 1#32
  let arg4 : BitVec 32 := Scf.iv c0_i32 c1_i32 k0_t1
  let c32_i32_94 : BitVec 32 := 32#32
  let v212 : BitVec 32 := Scalar.muli arg4 c32_i32_94
  let v213 : BitVec 32 := v212
  let v214 : Index := Scalar.indexCast v213
  let c1408 : Index := 1408#32
  ![v214.toNat, 1408]
def k0_mult13 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_141 : BitVec 32 := 32#32
  let v295 : BitVec 32 := Scalar.muli arg4 c32_i32_141
  v295
def k0_mult14 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_143 : BitVec 32 := 32#32
  let v300 : BitVec 32 := Scalar.muli arg4 c32_i32_143
  v300
def k0_mult15 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_145 : BitVec 32 := 32#32
  let v305 : BitVec 32 := Scalar.muli arg4 c32_i32_145
  v305
def k0_mult16 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_147 : BitVec 32 := 32#32
  let v310 : BitVec 32 := Scalar.muli arg4 c32_i32_147
  v310
def k0_mult17 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_195 : BitVec 32 := 32#32
  let v393 : BitVec 32 := Scalar.muli arg4 c32_i32_195
  v393
def k0_mult18 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_197 : BitVec 32 := 32#32
  let v398 : BitVec 32 := Scalar.muli arg4 c32_i32_197
  v398
def k0_mult19 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_199 : BitVec 32 := 32#32
  let v403 : BitVec 32 := Scalar.muli arg4 c32_i32_199
  v403
def k0_mult20 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_201 : BitVec 32 := 32#32
  let v408 : BitVec 32 := Scalar.muli arg4 c32_i32_201
  v408
def k0_mult21 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_249 : BitVec 32 := 32#32
  let v491 : BitVec 32 := Scalar.muli arg4 c32_i32_249
  v491
def k0_mult22 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_251 : BitVec 32 := 32#32
  let v496 : BitVec 32 := Scalar.muli arg4 c32_i32_251
  v496
def k0_mult23 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_253 : BitVec 32 := 32#32
  let v501 : BitVec 32 := Scalar.muli arg4 c32_i32_253
  v501
def k0_mult24 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32_255 : BitVec 32 := 32#32
  let v506 : BitVec 32 := Scalar.muli arg4 c32_i32_255
  v506
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1536 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1536 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12288x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PackReferenceIdeal.lean ====
abbrev S200704x1536 : Shape := ⟨2, ![200704, 1536]⟩
abbrev S200704x12x128 : Shape := ⟨3, ![200704, 12, 128]⟩
abbrev S_ : Shape := ⟨0, ![]⟩
abbrev S200704x1x128 : Shape := ⟨3, ![200704, 1, 128]⟩
abbrev S200704x128 : Shape := ⟨2, ![200704, 128]⟩
abbrev S200704x3x128 : Shape := ⟨3, ![200704, 3, 128]⟩
abbrev S200704x6x128 : Shape := ⟨3, ![200704, 6, 128]⟩
abbrev S1204224x128 : Shape := ⟨2, ![1204224, 128]⟩

abbrev nBuf : Space → Nat
  | .hbm => 118
  | .vmem => 0
  | .smem => 0
  | _ => 0

abbrev bufTy : (tb : Table) → Fin (tcTables nBuf tb) → BufTy
  | .hbm, ⟨0, _⟩ => ⟨S200704x1536, .i8⟩
  | .hbm, ⟨1, _⟩ => ⟨S200704x1536, .i8⟩
  | .hbm, ⟨2, _⟩ => ⟨S200704x1536, .i32⟩
  | .hbm, ⟨3, _⟩ => ⟨S200704x12x128, .i32⟩
  | .hbm, ⟨4, _⟩ => ⟨S_, .i32⟩
  | .hbm, ⟨5, _⟩ => ⟨S200704x12x128, .i32⟩
  | .hbm, ⟨6, _⟩ => ⟨S200704x12x128, .i32⟩
  | .hbm, ⟨7, _⟩ => ⟨S200704x1x128, .i32⟩
  | .hbm, ⟨8, _⟩ => ⟨S200704x128, .i32⟩
  | .hbm, ⟨9, _⟩ => ⟨S200704x1x128, .i32⟩
  | .hbm, ⟨10, _⟩ => ⟨S200704x128, .i32⟩
  | .hbm, ⟨11, _⟩ => ⟨S200704x1x128, .i32⟩
  | .hbm, ⟨12, _⟩ => ⟨S200704x128, .i32⟩
  | .hbm, ⟨13, _⟩ => ⟨S200704x1x128, .i32⟩
  | .hbm, ⟨14, _⟩ => ⟨S200704x1x128, .i32⟩
  | .hbm, ⟨15, _⟩ => ⟨S200704x1x128, .i32⟩
  | .hbm, ⟨16, _⟩ => ⟨S200704x3x128, .i32⟩
  | .hbm, ⟨17, _⟩ => ⟨S200704x1x128, .i32⟩
  | .hbm, ⟨18, _⟩ => ⟨S200704x128, .i32⟩
  | .hbm, ⟨19, _⟩ => ⟨S200704x1x128, .i32⟩
  | .hbm, ⟨20, _⟩ => ⟨S200704x128, .i32⟩
  | .hbm, ⟨21, _⟩ => ⟨S200704x1x128, .i32⟩
  | .hbm, ⟨22, _⟩ => ⟨S200704x128, .i32⟩
  | .hbm, ⟨23, _⟩ => ⟨S200704x1x128, .i32⟩
  | .hbm, ⟨24, _⟩ => ⟨S200704x1x128, .i32⟩
  | .hbm, ⟨25, _⟩ => ⟨S200704x1x128, .i32⟩
  | .hbm, ⟨26, _⟩ => ⟨S200704x3x128, .i32⟩
  | .hbm, ⟨27, _⟩ => ⟨S200704x1x128, .i32⟩
  | .hbm, ⟨28, _⟩ => ⟨S200704x128, .i32⟩
  | .hbm, ⟨29, _⟩ => ⟨S200704x1x128, .i32⟩
  | .hbm, ⟨30, _⟩ => ⟨S200704x128, .i32⟩
  | .hbm, ⟨31, _⟩ => ⟨S200704x1x128, .i32⟩
  | .hbm, ⟨32, _⟩ => ⟨S200704x128, .i32⟩
  | .hbm, ⟨33, _⟩ => ⟨S200704x1x128, .i32⟩
  | .hbm, ⟨34, _⟩ => ⟨S200704x1x128, .i32⟩
  | .hbm, ⟨35, _⟩ => ⟨S200704x1x128, .i32⟩
  | .hbm, ⟨36, _⟩ => ⟨S200704x3x128, .i32⟩
  | .hbm, ⟨37, _⟩ => ⟨S200704x1x128, .i32⟩
  | .hbm, ⟨38, _⟩ => ⟨S200704x128, .i32⟩
  | .hbm, ⟨39, _⟩ => ⟨S200704x1x128, .i32⟩
  | .hbm, ⟨40, _⟩ => ⟨S200704x128, .i32⟩
  | .hbm, ⟨41, _⟩ => ⟨S200704x1x128, .i32⟩
  | .hbm, ⟨42, _⟩ => ⟨S200704x128, .i32⟩
  | .hbm, ⟨43, _⟩ => ⟨S200704x1x128, .i32⟩
  | .hbm, ⟨44, _⟩ => ⟨S200704x1x128, .i32⟩
  | .hbm, ⟨45, _⟩ => ⟨S200704x1x128, .i32⟩
  | .hbm, ⟨46, _⟩ => ⟨S200704x3x128, .i32⟩
  | .hbm, ⟨47, _⟩ => ⟨S_, .i32⟩
  | .hbm, ⟨48, _⟩ => ⟨S200704x3x128, .i32⟩
  | .hbm, ⟨49, _⟩ => ⟨S200704x3x128, .i32⟩
  | .hbm, ⟨50, _⟩ => ⟨S200704x3x128, .i32⟩
  | .hbm, ⟨51, _⟩ => ⟨S_, .i32⟩
  | .hbm, ⟨52, _⟩ => ⟨S200704x3x128, .i32⟩
  | .hbm, ⟨53, _⟩ => ⟨S200704x3x128, .i32⟩
  | .hbm, ⟨54, _⟩ => ⟨S200704x3x128, .i32⟩
  | .hbm, ⟨55, _⟩ => ⟨S_, .i32⟩
  | .hbm, ⟨56, _⟩ => ⟨S200704x3x128, .i32⟩
  | .hbm, ⟨57, _⟩ => ⟨S200704x3x128, .i32⟩
  | .hbm, ⟨58, _⟩ => ⟨S200704x3x128, .i32⟩
  | .hbm, ⟨59, _⟩ => ⟨S200704x1536, .i32⟩
  | .hbm, ⟨60, _⟩ => ⟨S200704x12x128, .i32⟩
  | .hbm, ⟨61, _⟩ => ⟨S_, .i32⟩
  | .hbm, ⟨62, _⟩ => ⟨S200704x12x128, .i32⟩
  | .hbm, ⟨63, _⟩ => ⟨S200704x12x128, .i32⟩
  | .hbm, ⟨64, _⟩ => ⟨S200704x1x128, .i32⟩
  | .hbm, ⟨65, _⟩ => ⟨S200704x128, .i32⟩
  | .hbm, ⟨66, _⟩ => ⟨S200704x1x128, .i32⟩
  | .hbm, ⟨67, _⟩ => ⟨S200704x128, .i32⟩
  | .hbm, ⟨68, _⟩ => ⟨S200704x1x128, .i32⟩
  | .hbm, ⟨69, _⟩ => ⟨S200704x128, .i32⟩
  | .hbm, ⟨70, _⟩ => ⟨S200704x1x128, .i32⟩
  | .hbm, ⟨71, _⟩ => ⟨S200704x1x128, .i32⟩
  | .hbm, ⟨72, _⟩ => ⟨S200704x1x128, .i32⟩
  | .hbm, ⟨73, _⟩ => ⟨S200704x3x128, .i32⟩
  | .hbm, ⟨74, _⟩ => ⟨S200704x1x128, .i32⟩
  | .hbm, ⟨75, _⟩ => ⟨S200704x128, .i32⟩
  | .hbm, ⟨76, _⟩ => ⟨S200704x1x128, .i32⟩
  | .hbm, ⟨77, _⟩ => ⟨S200704x128, .i32⟩
  | .hbm, ⟨78, _⟩ => ⟨S200704x1x128, .i32⟩
  | .hbm, ⟨79, _⟩ => ⟨S200704x128, .i32⟩
  | .hbm, ⟨80, _⟩ => ⟨S200704x1x128, .i32⟩
  | .hbm, ⟨81, _⟩ => ⟨S200704x1x128, .i32⟩
  | .hbm, ⟨82, _⟩ => ⟨S200704x1x128, .i32⟩
  | .hbm, ⟨83, _⟩ => ⟨S200704x3x128, .i32⟩
  | .hbm, ⟨84, _⟩ => ⟨S200704x1x128, .i32⟩
  | .hbm, ⟨85, _⟩ => ⟨S200704x128, .i32⟩
  | .hbm, ⟨86, _⟩ => ⟨S200704x1x128, .i32⟩
  | .hbm, ⟨87, _⟩ => ⟨S200704x128, .i32⟩
  | .hbm, ⟨88, _⟩ => ⟨S200704x1x128, .i32⟩
  | .hbm, ⟨89, _⟩ => ⟨S200704x128, .i32⟩
  | .hbm, ⟨90, _⟩ => ⟨S200704x1x128, .i32⟩
  | .hbm, ⟨91, _⟩ => ⟨S200704x1x128, .i32⟩
  | .hbm, ⟨92, _⟩ => ⟨S200704x1x128, .i32⟩
  | .hbm, ⟨93, _⟩ => ⟨S200704x3x128, .i32⟩
  | .hbm, ⟨94, _⟩ => ⟨S200704x1x128, .i32⟩
  | .hbm, ⟨95, _⟩ => ⟨S200704x128, .i32⟩
  | .hbm, ⟨96, _⟩ => ⟨S200704x1x128, .i32⟩
  | .hbm, ⟨97, _⟩ => ⟨S200704x128, .i32⟩
  | .hbm, ⟨98, _⟩ => ⟨S200704x1x128, .i32⟩
  | .hbm, ⟨99, _⟩ => ⟨S200704x128, .i32⟩
  | .hbm, ⟨100, _⟩ => ⟨S200704x1x128, .i32⟩
  | .hbm, ⟨101, _⟩ => ⟨S200704x1x128, .i32⟩
  | .hbm, ⟨102, _⟩ => ⟨S200704x1x128, .i32⟩
  | .hbm, ⟨103, _⟩ => ⟨S200704x3x128, .i32⟩
  | .hbm, ⟨104, _⟩ => ⟨S_, .i32⟩
  | .hbm, ⟨105, _⟩ => ⟨S200704x3x128, .i32⟩
  | .hbm, ⟨106, _⟩ => ⟨S200704x3x128, .i32⟩
  | .hbm, ⟨107, _⟩ => ⟨S200704x3x128, .i32⟩
  | .hbm, ⟨108, _⟩ => ⟨S_, .i32⟩
  | .hbm, ⟨109, _⟩ => ⟨S200704x3x128, .i32⟩
  | .hbm, ⟨110, _⟩ => ⟨S200704x3x128, .i32⟩
  | .hbm, ⟨111, _⟩ => ⟨S200704x3x128, .i32⟩
  | .hbm, ⟨112, _⟩ => ⟨S_, .i32⟩
  | .hbm, ⟨113, _⟩ => ⟨S200704x3x128, .i32⟩
  | .hbm, ⟨114, _⟩ => ⟨S200704x3x128, .i32⟩
  | .hbm, ⟨115, _⟩ => ⟨S200704x3x128, .i32⟩
  | .hbm, ⟨116, _⟩ => ⟨S200704x6x128, .i32⟩
  | .hbm, ⟨117, _⟩ => ⟨S1204224x128, .i32⟩
  | _, _ => ⟨S200704x1536, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_c_0 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_c_1 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_c_2 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_c_3 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_c_4 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_c_5 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_c_6 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩

abbrev nD : Nat := 1
abbrev τ : Topo := Topo.v7x

variable {F : FTy → Type} [FloatOps F]
-- ==== Proof.KernelFrame.lean ====
/- The kernel as it is: its body run at any grid point and the run of the whole call, nothing stated of
   what the four outputs hold. -/
module

public import proofs.«01_k».proof.Proof.Gen.Kernel.Frame
public import proofs.«01_k».proof.Proof.Gen.Kernel.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The buffers the body is called with -/

/-- Each window's current buffer at point `t`, and that it is a whole buffer. -/
abbrev ms0_0 (t : Fin cfg0.N) : Memref sig .tc .vmem S256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x256 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x128 .i32 := win0_8.stage (cfg0.slots t 8)
abbrev hs0_8 (t : Fin cfg0.N) : (ms0_8 t).IsWhole := hstage0_8 ((cfg0.slots t 8).cast nbuf0_8)
/-- The scratch of the queries: a whole buffer of the kernel's own, passed beside the windows. -/
abbrev scM0_0 : Memref sig .tc .vmem S256x2048 .bf16 := Memref.whole cc0_scratch0

/-- What the body holds beside its windows: the scratch, at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: checking it walks past the default budget)
set_option maxHeartbeats 1000000 in
/-- The body runs from the inputs' blocks, leaves them as they were and the outputs and the scratch at some contents. -/
theorem kernelRun0_A (c : Dev nD) (i : grid0.Coords) (arg1 : Memref sig .tc .vmem S256x1536 .bf16) (harg1 : arg1.IsWhole) (arg2 : Memref sig .tc .vmem S2048x1536 .bf16) (harg2 : arg2.IsWhole) (arg3 : Memref sig .tc .vmem S16x128x512 .bf16) (harg3 : arg3.IsWhole) (arg4 : Memref sig .tc .vmem S1x128x256 .i32) (harg4 : arg4.IsWhole) (arg5 : Memref sig .tc .vmem S1x128x256 .i32) (harg5 : arg5.IsWhole) (arg6 : Memref sig .tc .vmem S256x128 .i32) (harg6 : arg6.IsWhole) (arg7 : Memref sig .tc .vmem S256x128 .f32) (harg7 : arg7.IsWhole) (arg8 : Memref sig .tc .vmem S1x128x256 .f32) (harg8 : arg8.IsWhole) (arg9 : Memref sig .tc .vmem S2048x128 .i32) (harg9 : arg9.IsWhole) (arg10 : Memref sig .tc .vmem S256x2048 .bf16) (harg10 : arg10.IsWhole)
    (x0 : Vec F S256x1536 .bf16) (x1 : Vec F S2048x1536 .bf16) (x2 : Vec F S16x128x512 .bf16) (x3 : Vec F S1x128x256 .i32) (x4 : Vec F S1x128x256 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_route i arg1 harg1 arg2 harg2 arg3 harg3 arg4 harg4 arg5 harg5 arg6 harg6 arg7 harg7 arg8 harg8 arg9 harg9 arg10 harg10) K := by
    intro E K
    simp only [cc0_route_eq_skeleton]; unfold cc0_route_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact HS0
    ipureintro; rfl
/-- The arrays the lines after the call write. -/
def tailed : Finset (Ref sig .tc) := {main_v13, main_v14}

/-- The lines after the call write those only. -/
theorem sfx_tailed : ∀ ops ∈ ([hostOps1] : List (List (HloOp τ sig (Elt F)))), ∀ op ∈ ops,
    ∀ b : Ref sig .tc, Proc.devRef .tc b ∈ op.writes → b ∈ tailed := by
  intro ops hops op hop b hb
  simp only [List.mem_cons, List.mem_nil_iff, or_false] at hops
  subst hops
  simp only [hostOps1, List.mem_cons, List.mem_nil_iff, or_false] at hop
  rcases hop with rfl | rfl
  · simp only [StableHlo.reshape_writes, Finset.mem_singleton] at hb
    rw [Proc.devRef_injective _ hb]; decide
  · simp only [StableHlo.unary_writes, Finset.mem_singleton] at hb
    rw [Proc.devRef_injective _ hb]; decide

/-- No window is on an argument array and no line after the call writes one, so each ends as it was. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat tailed (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-! ## What the pipeline is proved from -/

/-- The outputs nothing is stated of: all four. -/
def forgets0 : Fin 9 → Bool := fun w => w.val == 5 || w.val == 6 || w.val == 7 || w.val == 8

/-- What the pipeline is proved from: the arrays as the call finds them, each input's buffer at its block
    after every point, and what the outputs' buffers hold then. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- Its arrays are those the call finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's buffer holds its block at every point, whether fetched there or kept. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at any point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 800000 in
/-- The body, run at any point from the inputs' blocks, leaves what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  iintro ⟨H0, H1, H2, H3, H4, H5, H6, H7, H8, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body at point `t` is the body on that point's buffers. -/
theorem defs₀_row (t : Fin cfg0.N) :
    defs₀ (F := F) .tc cfg0.body (cfg0.bodyArgs t (cfg0.slots t)) = bodyAt0 t := by
  unfold defs₀; rw [Defs.onTc_tc]

/-- The body's triple, in the form the pipeline asks for. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
/-- The whole program runs to its end, with every semaphore counter at zero there. -/
theorem run_main_quiescent : θ_run defs (onTc (τ := τ) (main (F := F))) (s₀ m ρ) (fun r => (Pipeline.RDat.FramePostR (cfgs 0) (fun c => (dats m 0 c).toRForget forgets0) tailed (V m)) r ∧ r.2.sem = fun _ => 0) :=
  Pipeline.θ_run_frame_around_T_forget (Q' := _) cfgs (dats m) (0 : Fin 1) launch0 defs₀ Variants.none forgets0 tailed m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_tailed) (hmain := hmain m Variants.none) (hA := A_eq m) (hΦ := fun _ _ => rfl)

/-- Every execution ends, with every input of the call as it was and every other array but the outputs too. -/
theorem run_main : θ_run defs (onTc (τ := τ) (main (F := F))) (s₀ m ρ) (Pipeline.RDat.FramePostR (cfgs 0) (fun c => (dats m 0 c).toRForget forgets0) tailed (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_ofR m ρ (fun c => (dats m 0 c).toRForget forgets0) (A_eq m) (run_main m ρ)

/-- The kernel runs to the end without a fault, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Body

end
-- ==== Proof.IdealFrame.lean ====
/- The kernel at the ideal instance: its body run at any grid point, what it leaves in each output block,
   and the run of the whole call. -/
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The buffers the body is called with -/

/-- A buffer of output 5, to state its contents by. -/
abbrev VO0_5 : View sig .tc .vmem S256x128 .i32 := (Memref.whole cc0_stg5_0 : Memref sig .tc .vmem S256x128 .i32).view
/-- A buffer of output 6, to state its contents by. -/
abbrev VO0_6 : View sig .tc .vmem S256x128 .f32 := (Memref.whole cc0_stg6_0 : Memref sig .tc .vmem S256x128 .f32).view
/-- A buffer of output 7, to state its contents by. -/
abbrev VO0_7 : View sig .tc .vmem S1x128x256 .f32 := (Memref.whole cc0_stg7_0 : Memref sig .tc .vmem S1x128x256 .f32).view
/-- A buffer of output 8, to state its contents by. -/
abbrev VO0_8 : View sig .tc .vmem S2048x2x128 .bf16 := (Memref.whole cc0_stg8_0 : Memref sig .tc .vmem S2048x2x128 .bf16).view
/-- Each window's current buffer at point `t`, and that it is a whole buffer. -/
abbrev ms0_0 (t : Fin cfg0.N) : Memref sig .tc .vmem S256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x256 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x2x128 .bf16 := win0_8.stage (cfg0.slots t 8)
abbrev hs0_8 (t : Fin cfg0.N) : (ms0_8 t).IsWhole := hstage0_8 ((cfg0.slots t 8).cast nbuf0_8)
/-- The scratch of the queries: a whole buffer of the kernel's own, passed beside the windows. -/
abbrev scM0_0 : Memref sig .tc .vmem S256x2048 .bf16 := Memref.whole cc0_scratch0

/-- What the body holds beside its windows: the scratch, at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's buffer, with the proof that the body runs from the inputs' blocks
    to there, leaving the inputs as they were. -/
noncomputable def kernelRun0_A (c : Dev nD) (i : grid0.Coords) (arg1 : Memref sig .tc .vmem S256x1536 .bf16) (harg1 : arg1.IsWhole) (arg2 : Memref sig .tc .vmem S2048x1536 .bf16) (harg2 : arg2.IsWhole) (arg3 : Memref sig .tc .vmem S16x128x512 .bf16) (harg3 : arg3.IsWhole) (arg4 : Memref sig .tc .vmem S1x128x256 .i32) (harg4 : arg4.IsWhole) (arg5 : Memref sig .tc .vmem S1x128x256 .i32) (harg5 : arg5.IsWhole) (arg6 : Memref sig .tc .vmem S256x128 .i32) (harg6 : arg6.IsWhole) (arg7 : Memref sig .tc .vmem S256x128 .f32) (harg7 : arg7.IsWhole) (arg8 : Memref sig .tc .vmem S1x128x256 .f32) (harg8 : arg8.IsWhole) (arg9 : Memref sig .tc .vmem S2048x2x128 .bf16) (harg9 : arg9.IsWhole) (arg10 : Memref sig .tc .vmem S256x2048 .bf16) (harg10 : arg10.IsWhole)
    (x0 : Vec F S256x1536 .bf16) (x1 : Vec F S2048x1536 .bf16) (x2 : Vec F S16x128x512 .bf16) (x3 : Vec F S1x128x256 .i32) (x4 : Vec F S1x128x256 .i32) :
    Σ' (L5 : List (View.Piece (Elt F) S256x128 .i32)), Σ' (L6 : List (View.Piece (Elt F) S256x128 .f32)), Σ' (L7 : List (View.Piece (Elt F) S1x128x256 .f32)), { L8 : List (View.Piece (Elt F) S2048x2x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ d, owns (c : Thread nD τ) arg10 fullShare d)) -∗ K ⟨⟩))
          ⊢ wp frame (wpE (defs₀ (F := F)) Variants.none c none) E (cc0_route i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_route_eq_skeleton]; unfold cc0_route_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _, _; isplitr; swap; · iexact HS0
    ipureintro; rfl
/-- The one store to output 5's block covers it. -/
theorem cover0_A_5 (c : Dev nD) (i : grid0.Coords) (arg1 : Memref sig .tc .vmem S256x1536 .bf16) (harg1 : arg1.IsWhole) (arg2 : Memref sig .tc .vmem S2048x1536 .bf16) (harg2 : arg2.IsWhole) (arg3 : Memref sig .tc .vmem S16x128x512 .bf16) (harg3 : arg3.IsWhole) (arg4 : Memref sig .tc .vmem S1x128x256 .i32) (harg4 : arg4.IsWhole) (arg5 : Memref sig .tc .vmem S1x128x256 .i32) (harg5 : arg5.IsWhole) (arg6 : Memref sig .tc .vmem S256x128 .i32) (harg6 : arg6.IsWhole) (arg7 : Memref sig .tc .vmem S256x128 .f32) (harg7 : arg7.IsWhole) (arg8 : Memref sig .tc .vmem S1x128x256 .f32) (harg8 : arg8.IsWhole) (arg9 : Memref sig .tc .vmem S2048x2x128 .bf16) (harg9 : arg9.IsWhole) (arg10 : Memref sig .tc .vmem S256x2048 .bf16) (harg10 : arg10.IsWhole)
    (x0 : Vec F S256x1536 .bf16) (x1 : Vec F S2048x1536 .bf16) (x2 : Vec F S16x128x512 .bf16) (x3 : Vec F S1x128x256 .i32) (x4 : Vec F S1x128x256 .i32) (y : S256x128.Idx) :
    ∃ pc ∈ (kernelRun0_A c i arg1 harg1 arg2 harg2 arg3 harg3 arg4 harg4 arg5 harg5 arg6 harg6 arg7 harg7 arg8 harg8 arg9 harg9 arg10 harg10 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4).1 S256x128.size (by sl_kernel_rfl) y

/-- What the run leaves in output 5's buffer. -/
def out0_A_5 (c : Dev nD) (i : grid0.Coords) (arg1 : Memref sig .tc .vmem S256x1536 .bf16) (harg1 : arg1.IsWhole) (arg2 : Memref sig .tc .vmem S2048x1536 .bf16) (harg2 : arg2.IsWhole) (arg3 : Memref sig .tc .vmem S16x128x512 .bf16) (harg3 : arg3.IsWhole) (arg4 : Memref sig .tc .vmem S1x128x256 .i32) (harg4 : arg4.IsWhole) (arg5 : Memref sig .tc .vmem S1x128x256 .i32) (harg5 : arg5.IsWhole) (arg6 : Memref sig .tc .vmem S256x128 .i32) (harg6 : arg6.IsWhole) (arg7 : Memref sig .tc .vmem S256x128 .f32) (harg7 : arg7.IsWhole) (arg8 : Memref sig .tc .vmem S1x128x256 .f32) (harg8 : arg8.IsWhole) (arg9 : Memref sig .tc .vmem S2048x2x128 .bf16) (harg9 : arg9.IsWhole) (arg10 : Memref sig .tc .vmem S256x2048 .bf16) (harg10 : arg10.IsWhole)
    (x0 : Vec F S256x1536 .bf16) (x1 : Vec F S2048x1536 .bf16) (x2 : Vec F S16x128x512 .bf16) (x3 : Vec F S1x128x256 .i32) (x4 : Vec F S1x128x256 .i32) : Vec F S256x128 .i32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 x0 x1 x2 x3 x4).1)

/-- The one store to output 6's block covers it. -/
theorem cover0_A_6 (c : Dev nD) (i : grid0.Coords) (arg1 : Memref sig .tc .vmem S256x1536 .bf16) (harg1 : arg1.IsWhole) (arg2 : Memref sig .tc .vmem S2048x1536 .bf16) (harg2 : arg2.IsWhole) (arg3 : Memref sig .tc .vmem S16x128x512 .bf16) (harg3 : arg3.IsWhole) (arg4 : Memref sig .tc .vmem S1x128x256 .i32) (harg4 : arg4.IsWhole) (arg5 : Memref sig .tc .vmem S1x128x256 .i32) (harg5 : arg5.IsWhole) (arg6 : Memref sig .tc .vmem S256x128 .i32) (harg6 : arg6.IsWhole) (arg7 : Memref sig .tc .vmem S256x128 .f32) (harg7 : arg7.IsWhole) (arg8 : Memref sig .tc .vmem S1x128x256 .f32) (harg8 : arg8.IsWhole) (arg9 : Memref sig .tc .vmem S2048x2x128 .bf16) (harg9 : arg9.IsWhole) (arg10 : Memref sig .tc .vmem S256x2048 .bf16) (harg10 : arg10.IsWhole)
    (x0 : Vec F S256x1536 .bf16) (x1 : Vec F S2048x1536 .bf16) (x2 : Vec F S16x128x512 .bf16) (x3 : Vec F S1x128x256 .i32) (x4 : Vec F S1x128x256 .i32) (y : S256x128.Idx) :
    ∃ pc ∈ (kernelRun0_A c i arg1 harg1 arg2 harg2 arg3 harg3 arg4 harg4 arg5 harg5 arg6 harg6 arg7 harg7 arg8 harg8 arg9 harg9 arg10 harg10 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4).2.1 S256x128.size (by sl_kernel_rfl) y

/-- What the run leaves in output 6's buffer. -/
def out0_A_6 (c : Dev nD) (i : grid0.Coords) (arg1 : Memref sig .tc .vmem S256x1536 .bf16) (harg1 : arg1.IsWhole) (arg2 : Memref sig .tc .vmem S2048x1536 .bf16) (harg2 : arg2.IsWhole) (arg3 : Memref sig .tc .vmem S16x128x512 .bf16) (harg3 : arg3.IsWhole) (arg4 : Memref sig .tc .vmem S1x128x256 .i32) (harg4 : arg4.IsWhole) (arg5 : Memref sig .tc .vmem S1x128x256 .i32) (harg5 : arg5.IsWhole) (arg6 : Memref sig .tc .vmem S256x128 .i32) (harg6 : arg6.IsWhole) (arg7 : Memref sig .tc .vmem S256x128 .f32) (harg7 : arg7.IsWhole) (arg8 : Memref sig .tc .vmem S1x128x256 .f32) (harg8 : arg8.IsWhole) (arg9 : Memref sig .tc .vmem S2048x2x128 .bf16) (harg9 : arg9.IsWhole) (arg10 : Memref sig .tc .vmem S256x2048 .bf16) (harg10 : arg10.IsWhole)
    (x0 : Vec F S256x1536 .bf16) (x1 : Vec F S2048x1536 .bf16) (x2 : Vec F S16x128x512 .bf16) (x3 : Vec F S1x128x256 .i32) (x4 : Vec F S1x128x256 .i32) : Vec F S256x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 x0 x1 x2 x3 x4).2.1)

/-- The one store to output 7's block covers it. -/
theorem cover0_A_7 (c : Dev nD) (i : grid0.Coords) (arg1 : Memref sig .tc .vmem S256x1536 .bf16) (harg1 : arg1.IsWhole) (arg2 : Memref sig .tc .vmem S2048x1536 .bf16) (harg2 : arg2.IsWhole) (arg3 : Memref sig .tc .vmem S16x128x512 .bf16) (harg3 : arg3.IsWhole) (arg4 : Memref sig .tc .vmem S1x128x256 .i32) (harg4 : arg4.IsWhole) (arg5 : Memref sig .tc .vmem S1x128x256 .i32) (harg5 : arg5.IsWhole) (arg6 : Memref sig .tc .vmem S256x128 .i32) (harg6 : arg6.IsWhole) (arg7 : Memref sig .tc .vmem S256x128 .f32) (harg7 : arg7.IsWhole) (arg8 : Memref sig .tc .vmem S1x128x256 .f32) (harg8 : arg8.IsWhole) (arg9 : Memref sig .tc .vmem S2048x2x128 .bf16) (harg9 : arg9.IsWhole) (arg10 : Memref sig .tc .vmem S256x2048 .bf16) (harg10 : arg10.IsWhole)
    (x0 : Vec F S256x1536 .bf16) (x1 : Vec F S2048x1536 .bf16) (x2 : Vec F S16x128x512 .bf16) (x3 : Vec F S1x128x256 .i32) (x4 : Vec F S1x128x256 .i32) (y : S1x128x256.Idx) :
    ∃ pc ∈ (kernelRun0_A c i arg1 harg1 arg2 harg2 arg3 harg3 arg4 harg4 arg5 harg5 arg6 harg6 arg7 harg7 arg8 harg8 arg9 harg9 arg10 harg10 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4).2.2.1 S1x128x256.size (by sl_kernel_rfl) y

/-- What the run leaves in output 7's buffer. -/
def out0_A_7 (c : Dev nD) (i : grid0.Coords) (arg1 : Memref sig .tc .vmem S256x1536 .bf16) (harg1 : arg1.IsWhole) (arg2 : Memref sig .tc .vmem S2048x1536 .bf16) (harg2 : arg2.IsWhole) (arg3 : Memref sig .tc .vmem S16x128x512 .bf16) (harg3 : arg3.IsWhole) (arg4 : Memref sig .tc .vmem S1x128x256 .i32) (harg4 : arg4.IsWhole) (arg5 : Memref sig .tc .vmem S1x128x256 .i32) (harg5 : arg5.IsWhole) (arg6 : Memref sig .tc .vmem S256x128 .i32) (harg6 : arg6.IsWhole) (arg7 : Memref sig .tc .vmem S256x128 .f32) (harg7 : arg7.IsWhole) (arg8 : Memref sig .tc .vmem S1x128x256 .f32) (harg8 : arg8.IsWhole) (arg9 : Memref sig .tc .vmem S2048x2x128 .bf16) (harg9 : arg9.IsWhole) (arg10 : Memref sig .tc .vmem S256x2048 .bf16) (harg10 : arg10.IsWhole)
    (x0 : Vec F S256x1536 .bf16) (x1 : Vec F S2048x1536 .bf16) (x2 : Vec F S16x128x512 .bf16) (x3 : Vec F S1x128x256 .i32) (x4 : Vec F S1x128x256 .i32) : Vec F S1x128x256 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 x0 x1 x2 x3 x4).2.2.1)

/-- The eight stores to output 8's block cover it: row `r` is in the store of its remainder by 8. -/
theorem cover0_A_8 (c : Dev nD) (i : grid0.Coords) (arg1 : Memref sig .tc .vmem S256x1536 .bf16) (harg1 : arg1.IsWhole) (arg2 : Memref sig .tc .vmem S2048x1536 .bf16) (harg2 : arg2.IsWhole) (arg3 : Memref sig .tc .vmem S16x128x512 .bf16) (harg3 : arg3.IsWhole) (arg4 : Memref sig .tc .vmem S1x128x256 .i32) (harg4 : arg4.IsWhole) (arg5 : Memref sig .tc .vmem S1x128x256 .i32) (harg5 : arg5.IsWhole) (arg6 : Memref sig .tc .vmem S256x128 .i32) (harg6 : arg6.IsWhole) (arg7 : Memref sig .tc .vmem S256x128 .f32) (harg7 : arg7.IsWhole) (arg8 : Memref sig .tc .vmem S1x128x256 .f32) (harg8 : arg8.IsWhole) (arg9 : Memref sig .tc .vmem S2048x2x128 .bf16) (harg9 : arg9.IsWhole) (arg10 : Memref sig .tc .vmem S256x2048 .bf16) (harg10 : arg10.IsWhole)
    (x0 : Vec F S256x1536 .bf16) (x1 : Vec F S2048x1536 .bf16) (x2 : Vec F S16x128x512 .bf16) (x3 : Vec F S1x128x256 .i32) (x4 : Vec F S1x128x256 .i32) (y : S2048x2x128.Idx) :
    ∃ pc ∈ (kernelRun0_A c i arg1 harg1 arg2 harg2 arg3 harg3 arg4 harg4 arg5 harg5 arg6 harg6 arg7 harg7 arg8 harg8 arg9 harg9 arg10 harg10 x0 x1 x2 x3 x4).2.2.2.1, y ∈ pc.1.set := by
  unfold kernelRun0_A
  dsimp only
  have h0 : (y 0 : ℕ) < 2048 := (y 0).isLt
  have h1 : (y 1 : ℕ) < 2 := (y 1).isLt
  have h2 : (y 2 : ℕ) < 128 := (y 2).isLt
  simp only [List.exists_mem_cons_iff, LoadRect.mem_set, Fin.forall_fin_succ, IsEmpty.forall_iff, and_true,
    Matrix.cons_val_zero, Matrix.cons_val_succ, Fin.succ_zero_eq_one, Fin.succ_one_eq_two, Nat.one_mul, Nat.zero_add]
  have k1 : ∃ j < 2, (y 1 : ℕ) = 0 + 1 * j := ⟨y 1, h1, by omega⟩
  have k2 : ∃ j < 128, (y 2 : ℕ) = 0 + 1 * j := ⟨y 2, h2, by omega⟩
  have k0 : (y 0 : ℕ) / 8 < 256 := by omega
  rcases (by omega : (y 0 : ℕ) % 8 = 7 ∨ (y 0 : ℕ) % 8 = 6 ∨ (y 0 : ℕ) % 8 = 5 ∨ (y 0 : ℕ) % 8 = 4 ∨ (y 0 : ℕ) % 8 = 3
    ∨ (y 0 : ℕ) % 8 = 2 ∨ (y 0 : ℕ) % 8 = 1 ∨ (y 0 : ℕ) % 8 = 0) with h | h | h | h | h | h | h | h
  · exact .inl ⟨⟨(y 0 : ℕ) / 8, k0, by omega⟩, k1, k2⟩
  · exact .inr <| .inl ⟨⟨(y 0 : ℕ) / 8, k0, by omega⟩, k1, k2⟩
  · exact .inr <| .inr <| .inl ⟨⟨(y 0 : ℕ) / 8, k0, by omega⟩, k1, k2⟩
  · exact .inr <| .inr <| .inr <| .inl ⟨⟨(y 0 : ℕ) / 8, k0, by omega⟩, k1, k2⟩
  · exact .inr <| .inr <| .inr <| .inr <| .inl ⟨⟨(y 0 : ℕ) / 8, k0, by omega⟩, k1, k2⟩
  · exact .inr <| .inr <| .inr <| .inr <| .inr <| .inl ⟨⟨(y 0 : ℕ) / 8, k0, by omega⟩, k1, k2⟩
  · exact .inr <| .inr <| .inr <| .inr <| .inr <| .inr <| .inl ⟨⟨(y 0 : ℕ) / 8, k0, by omega⟩, k1, k2⟩
  · exact .inr <| .inr <| .inr <| .inr <| .inr <| .inr <| .inr <| .inl ⟨⟨(y 0 : ℕ) / 8, k0, by omega⟩, k1, k2⟩

/-- What the run leaves in output 8's buffer. -/
def out0_A_8 (c : Dev nD) (i : grid0.Coords) (arg1 : Memref sig .tc .vmem S256x1536 .bf16) (harg1 : arg1.IsWhole) (arg2 : Memref sig .tc .vmem S2048x1536 .bf16) (harg2 : arg2.IsWhole) (arg3 : Memref sig .tc .vmem S16x128x512 .bf16) (harg3 : arg3.IsWhole) (arg4 : Memref sig .tc .vmem S1x128x256 .i32) (harg4 : arg4.IsWhole) (arg5 : Memref sig .tc .vmem S1x128x256 .i32) (harg5 : arg5.IsWhole) (arg6 : Memref sig .tc .vmem S256x128 .i32) (harg6 : arg6.IsWhole) (arg7 : Memref sig .tc .vmem S256x128 .f32) (harg7 : arg7.IsWhole) (arg8 : Memref sig .tc .vmem S1x128x256 .f32) (harg8 : arg8.IsWhole) (arg9 : Memref sig .tc .vmem S2048x2x128 .bf16) (harg9 : arg9.IsWhole) (arg10 : Memref sig .tc .vmem S256x2048 .bf16) (harg10 : arg10.IsWhole)
    (x0 : Vec F S256x1536 .bf16) (x1 : Vec F S2048x1536 .bf16) (x2 : Vec F S16x128x512 .bf16) (x3 : Vec F S1x128x256 .i32) (x4 : Vec F S1x128x256 .i32) : Vec F S2048x2x128 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 x0 x1 x2 x3 x4).2.2.2.1)

/-! ## What the outputs hold after each point -/

/-- What the four outputs' buffers hold after the body at point `t`. -/
def outsAt0 (c : Dev nD) (t : Fin cfg0.N) : Vec F S256x128 .i32 × Vec F S256x128 .f32 × Vec F S1x128x256 .f32 × Vec F S2048x2x128 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t))

/-! ## What the pipeline is proved from -/

/-- What the pipeline is proved from: the arrays as the call finds them, each input's buffer at its block
    after every point, and what the outputs' buffers hold then. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2.1
    | ⟨7, _⟩ => (outsAt0 m c t).2.2.1
    | ⟨8, _⟩ => (outsAt0 m c t).2.2.2
  Φ _ := Pipeline.ΦA spec0 c
  q _ := fullShare
  owed _ := 0

/-- Its arrays are those the call finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2.1 := by dsimp only [dats]
theorem after0_7 (c : Dev nD) (t : Fin cfg0.N) : (dats m 0 c).after 7 t = (outsAt0 m c t).2.2.1 := by dsimp only [dats]
theorem after0_8 (c : Dev nD) (t : Fin cfg0.N) : (dats m 0 c).after 8 t = (outsAt0 m c t).2.2.2 := by dsimp only [dats]

/-- Each input's buffer holds its block at every point, whether fetched there or kept. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at any point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body, run at any point from the inputs' blocks, leaves what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  unfold out0_A_5 out0_A_6 out0_A_7 out0_A_8; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ (iblk m c 0 t) (iblk m c 1 t) (iblk m c 2 t) (iblk m c 3 t) (iblk m c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  iintro ⟨H0, H1, H2, H3, H4, ⟨%e5, H5⟩, ⟨%e6, H6⟩, ⟨%e7, H7⟩, ⟨%e8, H8⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _ _)

/-- The pipeline's body at point `t` is the body on that point's buffers. -/
theorem defs₀_row (t : Fin cfg0.N) :
    defs₀ (F := F) .tc cfg0.body (cfg0.bodyArgs t (cfg0.slots t)) = bodyAt0 t := by
  unfold defs₀; rw [Defs.onTc_tc]

/-- The body's triple, in the form the pipeline asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
/-- The whole program runs to its end, with every semaphore counter at zero there. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every execution ends, with every array of the call at what the blocks written back make it and every
    other array at what the lines after the call make it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The lines after the call turn the gates, a row per slot, back to a row per token, head by head. -/
theorem tail_eq (c : Dev nD) : Pipeline.afterTail₀ cfgs (dats m) 0 (V0 m) [hostOps1] c main_v14
    = transpose S4x1024x8x16 [0, 3, 1, 2] (shapeCast S4x8x16x1024 ((dats m 0 c).arrAt 7 cfg0.N : Vec F S4x128x1024 .f32) shapeCasts_S4x128x1024_S4x8x16x1024) transposes_S4x8x16x1024_S4x1024x8x16_0_3_1_2 := by
  unfold Pipeline.afterTail₀
  have h7 : Pipeline.withArrays (cfgs 0).spec c (V0 m c) (fun w => (dats m 0 c).arrAt w (cfgs 0).N) (Proc.devRef .tc main_v12_2) = (dats m 0 c).arrAt 7 cfg0.N :=
    Pipeline.withArrays_arr spec0 launch0.win.arr_inj c (V0 m c) (fun w => (dats m 0 c).arrAt w (cfgs 0).N) 7
  generalize (dats m 0 c).arrAt 7 cfg0.N = g at h7 ⊢
  generalize Pipeline.withArrays (cfgs 0).spec c (V0 m c) (fun w => (dats m 0 c).arrAt w (cfgs 0).N) = W at h7 ⊢
  subst h7
  simp only [hostOps1, List.flatten_cons, List.flatten_nil, List.append_nil]
  after_results
  rfl

/-- The run, with each of the three results at what the windows' write-backs and the lines after the call
    leave, the arguments unchanged. -/
theorem run_blocks : θ_run defs (onTc (τ := τ) (main (F := F))) ⟨m, fun _ => 0, ρ⟩ fun r => (∀ c : Dev nD,
      r.2.mem ((c : Thread nD τ).loc main_v12_0) = (dats m 0 c).arrAt 5 cfg0.N
      ∧ r.2.mem ((c : Thread nD τ).loc main_v12_1) = (dats m 0 c).arrAt 6 cfg0.N
      ∧ r.2.mem ((c : Thread nD τ).loc main_v14) = transpose S4x1024x8x16 [0, 3, 1, 2] (shapeCast S4x8x16x1024 ((dats m 0 c).arrAt 7 cfg0.N : Vec F S4x128x1024 .f32) shapeCasts_S4x128x1024_S4x8x16x1024) transposes_S4x8x16x1024_S4x1024x8x16_0_3_1_2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨(h c).1 5, (h c).1 6,
      ((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- The kernel runs to the end without a fault, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => (h c).2.2.2) (run_blocks m ρ)) ((θ_run defs _ _).mono (fun _ h => h.2) (run_main_quiescent m ρ))

end Cert.KernelIdeal.Body

end
-- ==== Proof.PackFrame.lean ====
/- The packing kernel as compiled: its loop over the experts of a block run from the blocks of the two code
   tables, and the run of the whole call, its arguments unchanged. -/
module

public import proofs.«01_k».proof.Proof.Gen.Pack.Frame
public import proofs.«01_k».proof.Proof.Gen.Pack.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.Pack.Body

open Cert.Pack Cert.Pack.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large: the definition's epilogue walks it past the default budget)
set_option maxHeartbeats 2000000 in
/-- What one trip stores, with the proof that the trip runs from the blocks of the codes and any contents of the
    output's buffer to those contents overwritten by the stores. -/
noncomputable def tripRun (c : Dev nD) (i : grid0.Coords) (arg1 : Memref sig .tc .vmem S2048x1536 .i8) (harg1 : arg1.IsWhole) (arg2 : Memref sig .tc .vmem S2048x1536 .i8) (harg2 : arg2.IsWhole) (arg3 : Memref sig .tc .vmem S12288x128 .i32) (harg3 : arg3.IsWhole)
    (x0 : Vec F S2048x1536 .i8) (x1 : Vec F S2048x1536 .i8) (k : Fin k0_t1_loop.trips) :
    { L : List (View.Piece (Elt F) S12288x128 .i32) //
      ∀ (f : Buf (Elt F) (arg3.view.loc (c : Thread nD τ))) (E : Set ℕ) (K : Unit → sProp 𝕄),
        iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} f)
            ∗ (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} arg3.view.writes (Elt F) f L)) -∗ K ⟨⟩))
          ⊢ wp frame (wpE (defs₀ (F := F)) Variants.none c none) E (k0_t1_body i arg1 harg1 arg2 harg2 arg3 harg3 k ⟨⟩) K } := by
  refine ⟨?_, fun f E K => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    iintro ⟨H0, H1, H2, Hk⟩
    sl_exec
    sl_step
    iapply Hk
    isplitl [H0]; · iexact H0
    isplitl [H1]; · iexact H1
    iexact H2

/-! ## The loop over the experts of a block -/

section Loop
variable (c : Dev nD) (i : grid0.Coords) (arg1 : Memref sig .tc .vmem S2048x1536 .i8) (harg1 : arg1.IsWhole) (arg2 : Memref sig .tc .vmem S2048x1536 .i8) (harg2 : arg2.IsWhole) (arg3 : Memref sig .tc .vmem S12288x128 .i32) (harg3 : arg3.IsWhole)
    (x0 x1 : Vec F S2048x1536 .i8)

/-- Between trips: the codes in place, the output's buffer at some contents. -/
def inv (_ : Nat) (_ : Unit) : sProp 𝕄 :=
  iprop((arg1.view.loc (c : Thread nD τ) ↦[arg1.view.set]{fullShare} harg1.unread x0) ∗ (arg2.view.loc (c : Thread nD τ) ↦[arg2.view.set]{fullShare} harg2.unread x1)
    ∗ (∃ f, arg3.view.loc (c : Thread nD τ) ↦[arg3.view.set]{fullShare} f))

/-- A trip keeps it. -/
theorem inv_step (k : Fin k0_t1_loop.trips) (acc : Unit) :
    inv (F := F) c arg1 harg1 arg2 harg2 arg3 x0 x1 k.val acc
      ⊢ wp frame (wpE (defs₀ (F := F)) Variants.none c none) Set.univ (k0_t1_body i arg1 harg1 arg2 harg2 arg3 harg3 k acc) (inv (F := F) c arg1 harg1 arg2 harg2 arg3 x0 x1 (k.val + 1)) := by
  unfold inv
  iintro ⟨H0, H1, ⟨%f, H2⟩⟩
  iapply ((tripRun c i arg1 harg1 arg2 harg2 arg3 harg3 x0 x1 k).2 f Set.univ _)
  isplitl [H0]; · iexact H0
  isplitl [H1]; · iexact H1
  isplitl [H2]; · iexact H2
  iintro ⟨H0, H1, H2⟩
  isplitl [H0]; · iexact H0
  isplitl [H1]; · iexact H1
  iexists _; iexact H2

/-- The body from the blocks of the codes: the output's block at some contents. -/
theorem kernelRun (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ (∃ d, owns (c : Thread nD τ) arg3 fullShare d)) -∗ K ⟨⟩))
      ⊢ wp frame (wpE (defs₀ (F := F)) Variants.none c none) Set.univ (cc0_pack_tables i arg1 harg1 arg2 harg2 arg3 harg3) K := by
  simp only [cc0_pack_tables_eq_skeleton]; unfold cc0_pack_tables_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  iapply (Scf.wp_for_bind frame (wpE (defs₀ (F := F)) Variants.none c none) Set.univ _ _ _ k0_t1_ok ⟨⟩ (k0_t1_body i arg1 harg1 arg2 harg2 arg3 harg3)
    (inv (F := F) c arg1 harg1 arg2 harg2 arg3 x0 x1) (inv_step c i arg1 harg1 arg2 harg2 arg3 harg3 x0 x1)) $$ [H0 H1 H2]
  · unfold inv
    isplitl [H0]; · iexact H0
    isplitl [H1]; · iexact H1
    iexists f2; iexact H2
  iintro %acc Hinv
  unfold inv
  icases Hinv with ⟨H0, H1, ⟨%f, H2⟩⟩
  sl_step
  iapply Hk
  isplitl [H0]
  · iexists _; isplitr; · ipureintro; exact harg1.read_unread _
    iexact H0
  isplitl [H1]
  · iexists _; isplitr; · ipureintro; exact harg2.read_unread _
    iexact H1
  iexists _, f; isplitr
  swap; · iexact H2
  ipureintro; rfl

end Loop

/-! ## The run of the call -/

variable (m : (ℓ : Loc nD τ sig) → Buf (Elt F) ℓ) (ρ : Dev nD → PrngReg)

abbrev ms0_0 (t : Fin cfg0.N) : Memref sig .tc .vmem S2048x1536 .i8 := win0_0.stage (cfg0.slots t 0)
abbrev ms0_1 (t : Fin cfg0.N) : Memref sig .tc .vmem S2048x1536 .i8 := win0_1.stage (cfg0.slots t 1)
abbrev ms0_2 (t : Fin cfg0.N) : Memref sig .tc .vmem S12288x128 .i32 := win0_2.stage (cfg0.slots t 2)

/-- The output nothing is stated of. -/
def forgets0 : Fin 3 → Bool := fun w => w.val == 2

/-- The proof data: the codes' blocks stay. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

/-- Its arrays are those the call finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare d))

/-- The body, run at any point from the inputs' blocks, leaves what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%d2, H2⟩⟩
  iapply (kernelRun c (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body at point `t` is the body on that point's buffers. -/
theorem defs₀_row (t : Fin cfg0.N) :
    defs₀ (F := F) .tc cfg0.body (cfg0.bodyArgs t (cfg0.slots t)) = bodyAt0 t := by
  unfold defs₀; rw [Defs.onTc_tc]

/-- The body's triple, in the form the pipeline asks for. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- (the rule's implicit arguments are found by unifying its conclusion with this one)
set_option backward.isDefEq.respectTransparency.types false in
/-- The whole program runs to its end, with every semaphore counter at zero there. -/
theorem run_main_quiescent : θ_run defs (onTc (τ := τ) (main (F := F))) (s₀ m ρ) (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The kernel runs to the end without a fault, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1.arr_in c 0 rfl).trans ((A_eq m c 0).trans (V_main_arg0 m c)),
      (h.1.arr_in c 1 rfl).trans ((A_eq m c 1).trans (V_main_arg1 m c))⟩, h.2⟩) (run_main_quiescent m ρ)

end Cert.Pack.Body

end
-- ==== Proof.PackBody.lean ====
/- The packing kernel at the ideal instance: one trip of its loop over the experts of a block, run from the
   blocks of the two code tables. -/
module

public import proofs.«01_k».proof.Proof.Gen.PackIdeal.Frame
public import proofs.«01_k».proof.Proof.Gen.PackIdeal.Skeleton
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.PackIdeal.Body

open Cert.PackIdeal Cert.PackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 2000000 in
/-- What one trip stores, with the proof that the trip runs from the blocks of the codes and any contents of the
    output's buffer to those contents overwritten by the stores. -/
noncomputable def tripRun (c : Dev nD) (i : grid0.Coords) (arg1 : Memref sig .tc .vmem S2048x1536 .i8) (harg1 : arg1.IsWhole) (arg2 : Memref sig .tc .vmem S2048x1536 .i8) (harg2 : arg2.IsWhole) (arg3 : Memref sig .tc .vmem S12288x128 .i32) (harg3 : arg3.IsWhole)
    (x0 : Vec F S2048x1536 .i8) (x1 : Vec F S2048x1536 .i8) (k : Fin k0_t1_loop.trips) :
    { L : List (View.Piece (Elt F) S12288x128 .i32) //
      ∀ (f : Buf (Elt F) (arg3.view.loc (c : Thread nD τ))) (E : Set ℕ) (K : Unit → sProp 𝕄),
        iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} f)
            ∗ (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} arg3.view.writes (Elt F) f L)) -∗ K ⟨⟩))
          ⊢ wp frame (wpE (defs₀ (F := F)) Variants.none c none) E (k0_t1_body i arg1 harg1 arg2 harg2 arg3 harg3 k ⟨⟩) K } := by
  refine ⟨?_, fun f E K => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    iintro ⟨H0, H1, H2, Hk⟩
    sl_exec
    sl_step
    iapply Hk
    isplitl [H0]; · iexact H0
    isplitl [H1]; · iexact H1
    iexact H2

end Cert.PackIdeal.Body

end
-- ==== Proof.PackWord.lean ====
/- The packed word of four codes, and the exchange of bytes among four words by which the packing kernel
   forms it: each of the four words it makes holds one byte of each of the four it is given. -/
module

public import proofs.«01_k».proof.Proof.PackBody
public import Idealize.ShloMosaic.Lib.BitcastFour
public import Idealize.ShloMosaic.Lib.WholeRead
public import Idealize.ShloMosaic.Lib.Pipeline.ValueKit
public import Idealize.ShloMosaic.Lib.Pointwise

@[expose] public section

set_option maxRecDepth 16384

noncomputable section

namespace Cert.PackIdeal.Word

open Cert.PackIdeal Cert.PackIdeal.Gen Cert.PackIdeal.Body
open Idealize.ShloMosaic Idealize.ShloMosaic.TcCoe Idealize.ShloMosaic.Tactic Idealize.SL.Sem

/-- Which of the twelve 128-wide pieces of a code row byte `b` of word row `j` comes from. -/
def piece (j : Fin 3) (b : Fin 4) : Fin 12 := ⟨if j.val = 2 then 8 + b.val else 2 * b.val + j.val, by split <;> omega⟩

/-- The code column of lane `l` of a piece. -/
def col (q : Fin 12) (l : Fin 128) : Fin 1536 := ⟨128 * q.val + l.val, by omega⟩

/-- Word row `j`, lane `l`, of one code row: its four codes side by side, the first lowest. -/
def word (x : Fin 1536 → BitVec 8) (j : Fin 3) (l : Fin 128) : BitVec 32 :=
  (x (col (piece j 0) l)).setWidth 32 ||| ((x (col (piece j 1) l)).setWidth 32 <<< 8) ||| ((x (col (piece j 2) l)).setWidth 32 <<< 16)
    ||| ((x (col (piece j 3) l)).setWidth 32 <<< 24)

/-- A word's bits are its codes' bits. -/
theorem word_bit (x : Fin 1536 → BitVec 8) (j : Fin 3) (l : Fin 128) (n : Nat) (hn : n < 32) :
    (word x j l).getLsbD n = (x (col (piece j ⟨n / 8, by omega⟩) l)).getLsbD (n % 8) :=
  four_bytes_getLsbD (fun b => x (col (piece j b) l)) n hn

section Words
variable (a b c d : BitVec 32)

/-- The low halves of two words, side by side. -/
def lo : BitVec 32 := IntOp.ori (IntOp.andi a 65535#32) (IntOp.shli .vector c 16#32)
/-- The high halves. -/
def hi : BitVec 32 := IntOp.ori (IntOp.shrui .vector a 16#32) (IntOp.andi c 4294901760#32)
/-- The even bytes of two words, in turn. -/
def ev : BitVec 32 := IntOp.ori (IntOp.andi a 16711935#32) (IntOp.shli .vector (IntOp.andi b 16711935#32) 8#32)
/-- The odd bytes. -/
def od : BitVec 32 := IntOp.ori (IntOp.andi (IntOp.shrui .vector a 8#32) 16711935#32) (IntOp.andi b (Scalar.xori 16711935#32 4294967295#32))

/-- Word `r` of the exchange. -/
def swap : Fin 4 → BitVec 32
  | 0 => ev (lo a c) (lo b d)
  | 1 => od (lo a c) (lo b d)
  | 2 => ev (hi a c) (hi b d)
  | 3 => od (hi a c) (hi b d)

/-- Its bits: byte `n / 8` is byte `r` of the `n / 8`-th word given. -/
theorem swap_bit (r : Fin 4) (n : Nat) (hn : n < 32) :
    (swap a b c d r).getLsbD n = ((![a, b, c, d] : Fin 4 → BitVec 32) ⟨n / 8, by omega⟩).getLsbD (8 * r.val + n % 8) := by
  interval_cases n <;> match r with
  | 0 => simp [swap, ev, lo, IntOp.ori, IntOp.andi, IntOp.shli, IntOp.shrui]
  | 1 => simp [swap, od, lo, IntOp.ori, IntOp.andi, IntOp.shli, IntOp.shrui, Scalar.xori, IntOp.xori]
  | 2 => simp [swap, ev, hi, IntOp.ori, IntOp.andi, IntOp.shli, IntOp.shrui]
  | 3 => simp [swap, od, hi, IntOp.ori, IntOp.andi, IntOp.shli, IntOp.shrui, Scalar.xori, IntOp.xori]

end Words

/-- The exchange of four words whose bytes are codes of four rows: word `r` is the packed word of row `r`. -/
theorem swap_word (A : Fin 4 → BitVec 32) (j : Fin 3) (l : Fin 128) (f : Fin 4 → Fin 1536 → BitVec 8)
    (h : ∀ (b : Fin 4) (n : Nat) (hn : n < 32), (A b).getLsbD n = (f ⟨n / 8, by omega⟩ (col (piece j b) l)).getLsbD (n % 8)) (r : Fin 4) :
    swap (A 0) (A 1) (A 2) (A 3) r = word (f r) j l := by
  refine BitVec.eq_of_getLsbD_eq fun n hn => ?_
  rw [swap_bit _ _ _ _ r n hn, word_bit _ _ _ n hn]
  have e : (![A 0, A 1, A 2, A 3] : Fin 4 → BitVec 32) = A := by
    funext b; fin_cases b <;> rfl
  rw [e, h ⟨n / 8, by omega⟩ (8 * r.val + n % 8) (by omega)]
  have e1 : (⟨(8 * r.val + n % 8) / 8, by omega⟩ : Fin 4) = r := Fin.ext (by show (8 * r.val + n % 8) / 8 = r.val; omega)
  have e2 : (8 * r.val + n % 8) % 8 = n % 8 := by omega
  rw [e1, e2]

end Cert.PackIdeal.Word

end
-- ==== Proof.PackTrip.lean ====
/- What one trip of the packing loop leaves in the output's buffer: the packed words of its thirty-two code
   rows, and nothing else touched. -/
module

public import proofs.«01_k».proof.Proof.PackWord

@[expose] public section

set_option maxRecDepth 16384

noncomputable section

namespace Cert.PackIdeal.Trip

open Cert.PackIdeal Cert.PackIdeal.Gen Cert.PackIdeal.Body Cert.PackIdeal.Word
open Idealize.ShloMosaic Idealize.ShloMosaic.TcCoe Idealize.ShloMosaic.Tactic Idealize.SL.Sem

variable {F : FTy → Type} [FloatOps F]

/-- The packed words of two tables of `R` code rows: six word rows a code row, three of each table. -/
def packed {R N : Nat} (h : N = 6 * R) (x0 x1 : (⟨2, ![R, 1536]⟩ : Shape).Idx → BitVec 8) (y : (⟨2, ![N, 128]⟩ : Shape).Idx) : BitVec 32 :=
  word (fun m => (if (y 0).val % 6 < 3 then x0 else x1) (ix2 ⟨(y 0).val / 6, by have : (y 0).val < N := (y 0).isLt; omega⟩ m))
    ⟨(y 0).val % 3, by omega⟩ (y 1)

theorem off5 : ∀ (k : Fin k0_t1_loop.trips) (r : Fin 4) (s : Fin 2) (j : Fin 3),
    k0_off5 k (BitVec.ofNat 32 r.val) (BitVec.ofNat 32 (3 * s.val)) (BitVec.ofNat 32 j.val) = ![192 * k.val + 6 * r.val + 3 * s.val + j.val, 0] := by
  decide +kernel

theorem trips_eq : k0_t1_loop.trips = 64 := by decide +kernel

theorem k_lt (k : Fin k0_t1_loop.trips) : k.val < 64 := trips_eq ▸ k.isLt

theorem offs : ∀ k : Fin k0_t1_loop.trips,
    k0_off1 k = ![32 * k.val, 128 * (piece 0 0).val] ∧ k0_off2 k = ![32 * k.val, 128 * (piece 0 1).val] ∧ k0_off3 k = ![32 * k.val, 128 * (piece 0 2).val] ∧ k0_off4 k = ![32 * k.val, 128 * (piece 0 3).val]
      ∧ k0_off6 k = ![32 * k.val, 128 * (piece 1 0).val] ∧ k0_off7 k = ![32 * k.val, 128 * (piece 1 1).val] ∧ k0_off8 k = ![32 * k.val, 128 * (piece 1 2).val] ∧ k0_off9 k = ![32 * k.val, 128 * (piece 1 3).val]
      ∧ k0_off10 k = ![32 * k.val, 128 * (piece 2 0).val] ∧ k0_off11 k = ![32 * k.val, 128 * (piece 2 1).val] ∧ k0_off12 k = ![32 * k.val, 128 * (piece 2 2).val] ∧ k0_off13 k = ![32 * k.val, 128 * (piece 2 3).val] := by
  decide +kernel

/-- One loaded tile, its bytes taken four rows to a word. -/
abbrev tile (arg : Memref sig .tc .vmem S2048x1536 .i8) (harg : arg.IsWhole) (x : Vec F S2048x1536 .i8) (off : Fin 2 → Nat)
    (inb : ∀ a, off a + S32x128.size a ≤ S2048x1536.size a) : IVec S8x128 32 :=
  bitcast S8x128 32 (View.readAt (Elt F) arg.view (Rect.unit (s := S2048x1536) off S32x128.size inb).toLoadRect (harg.unread x)) bitcasts_S32x128_w8_S8x128_w32

/-- The tile's bits are the table's. -/
theorem tile_bit (arg : Memref sig .tc .vmem S2048x1536 .i8) (harg : arg.IsWhole) (x : Vec F S2048x1536 .i8) (off : Fin 2 → Nat)
    (inb : ∀ a, off a + S32x128.size a ≤ S2048x1536.size a) (k : Nat) (hk : k < 64) (q : Fin 12) (hoff : off = ![32 * k, 128 * q.val])
    (a : Fin 8) (l : Fin 128) (n : Nat) (hn : n < 32) :
    (tile (F := F) arg harg x off inb (ix2 a l)).getLsbD n
      = ((x : (⟨2, ![2048, 1536]⟩ : Shape).Idx → BitVec 8) (ix2 ⟨32 * k + 4 * a.val + n / 8, by omega⟩ (col q l))).getLsbD (n % 8) := by
  refine (bitcast_8_32_getLsbD_ix2 (r := 8) (R := 32) (n := 128) _ _ a l n hn ⟨4 * a.val + n / 8, by omega⟩ rfl).trans ?_
  refine congrArg (fun b : BitVec 8 => b.getLsbD (n % 8)) ?_
  refine (harg.readAt_unread (Val := Elt F) x _ _).trans (congrArg x ?_)
  subst hoff
  refine Rect.emb_eq_of_coords (Rect.unit (s := S2048x1536) ![32 * k, 128 * q.val] S32x128.size inb) _ _ (Fin.forall_fin_two.mpr ⟨?_, ?_⟩)
  · show 32 * k + 4 * a.val + n / 8 = 32 * k + 1 * (4 * a.val + n / 8); omega
  · show 128 * q.val + l.val = 128 * q.val + 1 * l.val; omega

/-- A tile of code words: its bytes are the codes of rows `32 k …` in the piece `q` of the table. -/
def IsTile (x : Vec F S2048x1536 .i8) (k : Nat) (hk : k < 64) (q : Fin 12) (A : IVec S8x128 32) : Prop :=
  ∀ (a : Fin 8) (l : Fin 128) (n : Nat) (hn : n < 32), (A (ix2 a l)).getLsbD n
      = ((x : (⟨2, ![2048, 1536]⟩ : Shape).Idx → BitVec 8) (ix2 ⟨32 * k + 4 * a.val + n / 8, by omega⟩ (col q l))).getLsbD (n % 8)

/-- A loaded tile is one. -/
theorem isTile_tile (arg : Memref sig .tc .vmem S2048x1536 .i8) (harg : arg.IsWhole) (x : Vec F S2048x1536 .i8) (off : Fin 2 → Nat)
    (inb : ∀ a, off a + S32x128.size a ≤ S2048x1536.size a) (k : Nat) (hk : k < 64) (q : Fin 12) (hoff : off = ![32 * k, 128 * q.val]) :
    IsTile (F := F) x k hk q (tile arg harg x off inb) :=
  fun a l n hn => tile_bit arg harg x off inb k hk q hoff a l n hn

/-- Four tiles exchanged are packed words. -/
theorem swap_tile (x : Vec F S2048x1536 .i8) (k : Nat) (hk : k < 64) (j : Fin 3) (A : Fin 4 → IVec S8x128 32)
    (hA : ∀ b, IsTile (F := F) x k hk (piece j b) (A b)) (r : Fin 4) (a : Fin 8) (l : Fin 128) :
    swap (A 0 (ix2 a l)) (A 1 (ix2 a l)) (A 2 (ix2 a l)) (A 3 (ix2 a l)) r
      = word (fun m => (x : (⟨2, ![2048, 1536]⟩ : Shape).Idx → BitVec 8) (ix2 ⟨32 * k + 4 * a.val + r.val, by omega⟩ m)) j l :=
  swap_word (fun b => A b (ix2 a l)) j l (fun s m => (x : (⟨2, ![2048, 1536]⟩ : Shape).Idx → BitVec 8) (ix2 ⟨32 * k + 4 * a.val + s.val, by omega⟩ m))
    (fun b n hn => hA b a l n hn) r

/-- The packed word of a row, by its table, code row and word row. -/
theorem packed_at {R N : Nat} (h : N = 6 * R) (x0 x1 : (⟨2, ![R, 1536]⟩ : Shape).Idx → BitVec 8) (y : (⟨2, ![N, 128]⟩ : Shape).Idx)
    (s : Fin 2) (e : Fin R) (j : Fin 3) (l : Fin 128) (h0 : (y 0).val = 6 * e.val + 3 * s.val + j.val) (h1 : (y 1).val = l.val) :
    packed h x0 x1 y = word (fun m => (if s = 0 then x0 else x1) (ix2 e m)) j l := by
  have e1 : (y 1 : Fin 128) = l := Fin.ext h1
  have hN : (y 0).val < N := (y 0).isLt
  have e0 : (⟨(y 0).val / 6, by omega⟩ : Fin R) = e := Fin.ext (by show (y 0).val / 6 = e.val; omega)
  have e2 : (⟨(y 0).val % 3, by omega⟩ : Fin 3) = j := Fin.ext (by show (y 0).val % 3 = j.val; omega)
  have e3 : (if (y 0).val % 6 < 3 then x0 else x1) = if s = 0 then x0 else x1 := by
    by_cases hs : s = 0
    · rw [if_pos hs, if_pos (by rw [hs] at h0; have : (y 0).val = 6 * e.val + 3 * 0 + j.val := h0; omega)]
    · have h3 : s.val = 1 := by have : s.val ≠ 0 := fun h => hs (Fin.ext h); omega
      rw [if_neg hs, if_neg (by rw [h3] at h0; omega)]
  unfold packed
  rw [e0, e2, e3, e1]

/-- A store of the trip puts packed words where they belong. -/
theorem piece_ok (x0 x1 : Vec F S2048x1536 .i8) (k : Nat) (hk : k < 64) (r : Fin 4) (s : Fin 2) (j : Fin 3) (A : Fin 4 → IVec S8x128 32)
    (x : Vec F S2048x1536 .i8) (hx : x = if s = 0 then x0 else x1)
    (hA : ∀ b, IsTile (F := F) x k hk (piece j b) (A b))
    (off : Fin 2 → Nat) (hoff : off = ![192 * k + 6 * r.val + 3 * s.val + j.val, 0])
    (inb) (pos) (z : S8x128.Idx) :
    swap (A 0 z) (A 1 z) (A 2 z) (A 3 z) r
      = packed (R := 2048) (N := 12288) (by omega) x0 x1 ((⟨⟨off, S8x128.size, ![24, 1], inb⟩, pos⟩ : Rect S12288x128).emb z) := by
  subst hoff
  obtain ⟨a, l, rfl⟩ : ∃ (a : Fin 8) (l : Fin 128), z = ix2 a l := ⟨z 0, z 1, eq_ix2 z⟩
  rw [swap_tile _ k hk j A hA r a l]
  refine Eq.trans ?_ (packed_at (R := 2048) (N := 12288) _ x0 x1 _ s ⟨32 * k + 4 * a.val + r.val, by omega⟩ j l ?_ ?_).symm
  · rw [hx]
  · show 192 * k + 6 * r.val + 3 * s.val + j.val + 24 * a.val = 6 * (32 * k + 4 * a.val + r.val) + 3 * s.val + j.val
    omega
  · show 0 + 1 * l.val = l.val
    omega

section Trip
variable (c : Dev nD) (i : grid0.Coords) (arg1 : Memref sig .tc .vmem S2048x1536 .i8) (harg1 : arg1.IsWhole) (arg2 : Memref sig .tc .vmem S2048x1536 .i8) (harg2 : arg2.IsWhole) (arg3 : Memref sig .tc .vmem S12288x128 .i32) (harg3 : arg3.IsWhole)
    (x0 x1 : Vec F S2048x1536 .i8) (k : Fin k0_t1_loop.trips)

/-- The four tiles of word row `j` that a trip loads from one table. -/
def tiles (arg : Memref sig .tc .vmem S2048x1536 .i8) (harg : arg.IsWhole) (x : Vec F S2048x1536 .i8) (k : Fin k0_t1_loop.trips) : Fin 3 → Fin 4 → IVec S8x128 32
  | 0, 0 => tile arg harg x (k0_off1 k) (k0_off1_inb k)
  | 0, 1 => tile arg harg x (k0_off2 k) (k0_off2_inb k)
  | 0, 2 => tile arg harg x (k0_off3 k) (k0_off3_inb k)
  | 0, 3 => tile arg harg x (k0_off4 k) (k0_off4_inb k)
  | 1, 0 => tile arg harg x (k0_off6 k) (k0_off6_inb k)
  | 1, 1 => tile arg harg x (k0_off7 k) (k0_off7_inb k)
  | 1, 2 => tile arg harg x (k0_off8 k) (k0_off8_inb k)
  | 1, 3 => tile arg harg x (k0_off9 k) (k0_off9_inb k)
  | 2, 0 => tile arg harg x (k0_off10 k) (k0_off10_inb k)
  | 2, 1 => tile arg harg x (k0_off11 k) (k0_off11_inb k)
  | 2, 2 => tile arg harg x (k0_off12 k) (k0_off12_inb k)
  | 2, 3 => tile arg harg x (k0_off13 k) (k0_off13_inb k)

theorem isTile (arg : Memref sig .tc .vmem S2048x1536 .i8) (harg : arg.IsWhole) (x : Vec F S2048x1536 .i8) (k : Fin k0_t1_loop.trips) (j : Fin 3) (b : Fin 4) :
    IsTile (F := F) x k.val (k_lt k) (piece j b) (tiles arg harg x k j b) := by
  obtain ⟨h1, h2, h3, h4, h6, h7, h8, h9, h10, h11, h12, h13⟩ := offs k
  match j, b with
  | 0, 0 => unfold tiles; exact isTile_tile arg harg x _ _ k.val (k_lt k) (piece 0 0) h1
  | 0, 1 => unfold tiles; exact isTile_tile arg harg x _ _ k.val (k_lt k) (piece 0 1) h2
  | 0, 2 => unfold tiles; exact isTile_tile arg harg x _ _ k.val (k_lt k) (piece 0 2) h3
  | 0, 3 => unfold tiles; exact isTile_tile arg harg x _ _ k.val (k_lt k) (piece 0 3) h4
  | 1, 0 => unfold tiles; exact isTile_tile arg harg x _ _ k.val (k_lt k) (piece 1 0) h6
  | 1, 1 => unfold tiles; exact isTile_tile arg harg x _ _ k.val (k_lt k) (piece 1 1) h7
  | 1, 2 => unfold tiles; exact isTile_tile arg harg x _ _ k.val (k_lt k) (piece 1 2) h8
  | 1, 3 => unfold tiles; exact isTile_tile arg harg x _ _ k.val (k_lt k) (piece 1 3) h9
  | 2, 0 => unfold tiles; exact isTile_tile arg harg x _ _ k.val (k_lt k) (piece 2 0) h10
  | 2, 1 => unfold tiles; exact isTile_tile arg harg x _ _ k.val (k_lt k) (piece 2 1) h11
  | 2, 2 => unfold tiles; exact isTile_tile arg harg x _ _ k.val (k_lt k) (piece 2 2) h12
  | 2, 3 => unfold tiles; exact isTile_tile arg harg x _ _ k.val (k_lt k) (piece 2 3) h13

/-- One store of the trip: its rectangle and the packed words it puts there. -/
def store (r : Fin 4) (s : Fin 2) (j : Fin 3) : View.Piece (Elt F) S12288x128 .i32 :=
  ⟨⟨⟨k0_off5 k (BitVec.ofNat 32 r.val) (BitVec.ofNat 32 (3 * s.val)) (BitVec.ofNat 32 j.val), S8x128.size, ![24, 1], k0_off5_inb k r s j⟩, spos_24_1⟩,
    match s with
    | 0 => fun z => swap (tiles arg1 harg1 x0 k j 0 z) (tiles arg1 harg1 x0 k j 1 z) (tiles arg1 harg1 x0 k j 2 z) (tiles arg1 harg1 x0 k j 3 z) r
    | 1 => fun z => swap (tiles arg2 harg2 x1 k j 0 z) (tiles arg2 harg2 x1 k j 1 z) (tiles arg2 harg2 x1 k j 2 z) (tiles arg2 harg2 x1 k j 3 z) r⟩

theorem store_ok (r : Fin 4) (s : Fin 2) (j : Fin 3) (z : (store arg1 harg1 arg2 harg2 x0 x1 k r s j).1.shape.Idx) :
    (store arg1 harg1 arg2 harg2 x0 x1 k r s j).2 z = packed (R := 2048) (N := 12288) (by omega) x0 x1 ((store arg1 harg1 arg2 harg2 x0 x1 k r s j).1.emb z) := by
  match s with
  | 0 =>
    have e := piece_ok x0 x1 k.val (k_lt k) r 0 j (tiles arg1 harg1 x0 k j) x0 (if_pos rfl).symm (fun b => isTile arg1 harg1 x0 k j b) _ (off5 k r 0 j) (k0_off5_inb k r 0 j) spos_24_1 z
    exact e
  | 1 =>
    have e := piece_ok x0 x1 k.val (k_lt k) r 1 j (tiles arg2 harg2 x1 k j) x1 (if_neg (by decide)).symm (fun b => isTile arg2 harg2 x1 k j b) _ (off5 k r 1 j) (k0_off5_inb k r 1 j) spos_24_1 z
    exact e

-- (twenty-four stores, each compared with the text's)
set_option maxHeartbeats 4000000 in
/-- The trip's stores are these, last first. -/
theorem trip_eq : (tripRun c i arg1 harg1 arg2 harg2 arg3 harg3 x0 x1 k).1
    = [((1 : Fin 2), (2 : Fin 3)), (1, 1), (1, 0), (0, 2), (0, 1), (0, 0)].flatMap fun q =>
        [(3 : Fin 4), 2, 1, 0].map fun r => store arg1 harg1 arg2 harg2 x0 x1 k r q.1 q.2 := by
  unfold tripRun
  dsimp only
  simp only [List.flatMap_cons, List.flatMap_nil, List.map_cons, List.map_nil, List.cons_append, List.nil_append, List.append_nil]
  repeat' first
    | refine congrArg₂ List.cons ?_ ?_
    | rfl

end Trip

end Cert.PackIdeal.Trip

end
-- ==== Proof.PackIdealFrame.lean ====
/- The packing kernel at the ideal instance: its loop run over the experts of a block, what it leaves in the
   output's block, and the run of the whole call. -/
module

public import proofs.«01_k».proof.Proof.PackTrip

@[expose] public section

set_option maxRecDepth 16384

noncomputable section

namespace Cert.PackIdeal.Body

open Cert.PackIdeal Cert.PackIdeal.Gen Cert.PackIdeal.Trip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The loop over the experts of a block -/

/-- What the loop fills the output's block with. -/
abbrev blockPacked (x0 x1 : Vec F S2048x1536 .i8) : Vec F S12288x128 .i32 := packed (R := 2048) (N := 12288) (by omega) x0 x1

section Loop
variable (c : Dev nD) (i : grid0.Coords) (arg1 : Memref sig .tc .vmem S2048x1536 .i8) (harg1 : arg1.IsWhole) (arg2 : Memref sig .tc .vmem S2048x1536 .i8) (harg2 : arg2.IsWhole) (arg3 : Memref sig .tc .vmem S12288x128 .i32) (harg3 : arg3.IsWhole)
    (x0 x1 : Vec F S2048x1536 .i8)

/-- The rows a store of a trip covers. -/
theorem store_mem (k : Fin k0_t1_loop.trips) (r : Fin 4) (s : Fin 2) (j : Fin 3) (y : S12288x128.Idx) :
    y ∈ (store arg1 harg1 arg2 harg2 x0 x1 k r s j).1.set ↔ ∃ a < 8, (y 0).val = 192 * k.val + 6 * r.val + 3 * s.val + j.val + 24 * a := by
  have hy : (y 1).val < 128 := (y 1).isLt
  refine (LoadRect.mem_set _).trans (Fin.forall_fin_two.trans ?_)
  show ((∃ a < 8, (y 0).val = k0_off5 k (BitVec.ofNat 32 r.val) (BitVec.ofNat 32 (3 * s.val)) (BitVec.ofNat 32 j.val) 0 + 24 * a)
    ∧ ∃ a < 128, (y 1).val = k0_off5 k (BitVec.ofNat 32 r.val) (BitVec.ofNat 32 (3 * s.val)) (BitVec.ofNat 32 j.val) 1 + 1 * a) ↔ _
  rw [off5]
  exact ⟨fun h => h.1, fun h => ⟨h, (y 1).val, hy, by show (y 1).val = 0 + 1 * (y 1).val; omega⟩⟩

/-- After trip `k` the rows of all the trips so far read the packed words, if those of the trips before did. -/
theorem trip_read (k : Fin k0_t1_loop.trips) (f : arg3.view.ty.Contents (Elt F))
    (hf : ∀ y : S12288x128.Idx, (y 0).val < 192 * k.val → arg3.view.read (Elt F) f y = blockPacked x0 x1 y)
    (y : S12288x128.Idx) (hy : (y 0).val < 192 * (k.val + 1)) :
    arg3.view.read (Elt F) (arg3.view.writes (Elt F) f (tripRun c i arg1 harg1 arg2 harg2 arg3 harg3 x0 x1 k).1) y = blockPacked x0 x1 y := by
  rw [trip_eq]
  by_cases h : (y 0).val < 192 * k.val
  · refine (View.read_writes_apply_of_forall_not_mem arg3.view f y _ fun p hp hm => ?_).trans (hf y h)
    obtain ⟨q, -, hq⟩ := List.mem_flatMap.mp hp
    obtain ⟨r, -, rfl⟩ := List.mem_map.mp hq
    obtain ⟨a, -, ha⟩ := (store_mem arg1 harg1 arg2 harg2 x0 x1 k r q.1 q.2 y).mp hm
    omega
  · refine View.read_writes_apply_of_pieces arg3.view f (blockPacked x0 x1) _ (fun p hp x => ?_) y ?_
    · obtain ⟨q, -, hq⟩ := List.mem_flatMap.mp hp
      obtain ⟨r, -, rfl⟩ := List.mem_map.mp hq
      exact store_ok arg1 harg1 arg2 harg2 x0 x1 k r q.1 q.2 x
    · have hs : ∀ (s : Fin 2) (j : Fin 3), (s, j) ∈ [((1 : Fin 2), (2 : Fin 3)), (1, 1), (1, 0), (0, 2), (0, 1), (0, 0)] := by decide
      have hr : ∀ r : Fin 4, r ∈ [(3 : Fin 4), 2, 1, 0] := by decide
      refine ⟨_, List.mem_flatMap.mpr ⟨_, hs ⟨(y 0).val % 6 / 3, by omega⟩ ⟨(y 0).val % 3, by omega⟩, List.mem_map.mpr ⟨⟨(y 0).val % 24 / 6, by omega⟩, hr _, rfl⟩⟩, ?_⟩
      refine (store_mem arg1 harg1 arg2 harg2 x0 x1 k _ _ _ y).mpr ⟨((y 0).val - 192 * k.val) / 24, by omega, ?_⟩
      show (y 0).val = 192 * k.val + 6 * ((y 0).val % 24 / 6) + 3 * ((y 0).val % 6 / 3) + (y 0).val % 3 + 24 * (((y 0).val - 192 * k.val) / 24)
      omega

/-- Before trip `n`: the codes in place, and the rows of the trips so far packed. -/
def inv (n : Nat) (_ : Unit) : sProp 𝕄 :=
  iprop((arg1.view.loc (c : Thread nD τ) ↦[arg1.view.set]{fullShare} harg1.unread x0) ∗ (arg2.view.loc (c : Thread nD τ) ↦[arg2.view.set]{fullShare} harg2.unread x1)
    ∗ (∃ f, ⌜∀ y : S12288x128.Idx, (y 0).val < 192 * n → arg3.view.read (Elt F) f y = blockPacked x0 x1 y⌝ ∗ (arg3.view.loc (c : Thread nD τ) ↦[arg3.view.set]{fullShare} f)))

/-- A trip keeps it. -/
theorem inv_step (k : Fin k0_t1_loop.trips) (acc : Unit) :
    inv (F := F) c arg1 harg1 arg2 harg2 arg3 x0 x1 k.val acc
      ⊢ wp frame (wpE (defs₀ (F := F)) Variants.none c none) Set.univ (k0_t1_body i arg1 harg1 arg2 harg2 arg3 harg3 k acc) (inv (F := F) c arg1 harg1 arg2 harg2 arg3 x0 x1 (k.val + 1)) := by
  unfold inv
  iintro ⟨H0, H1, ⟨%f, %hf, H2⟩⟩
  iapply ((tripRun c i arg1 harg1 arg2 harg2 arg3 harg3 x0 x1 k).2 f Set.univ _)
  isplitl [H0]; · iexact H0
  isplitl [H1]; · iexact H1
  isplitl [H2]; · iexact H2
  iintro ⟨H0, H1, H2⟩
  isplitl [H0]; · iexact H0
  isplitl [H1]; · iexact H1
  iexists _; isplitr
  swap; · iexact H2
  ipureintro; exact trip_read c i arg1 harg1 arg2 harg2 arg3 harg3 x0 x1 k f hf

/-- The body from the blocks of the codes: the output's block packed. -/
theorem kernelRun (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (blockPacked x0 x1)) -∗ K ⟨⟩))
      ⊢ wp frame (wpE (defs₀ (F := F)) Variants.none c none) Set.univ (cc0_pack_tables i arg1 harg1 arg2 harg2 arg3 harg3) K := by
  simp only [cc0_pack_tables_eq_skeleton]; unfold cc0_pack_tables_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  iapply (Scf.wp_for_bind frame (wpE (defs₀ (F := F)) Variants.none c none) Set.univ _ _ _ k0_t1_ok ⟨⟩ (k0_t1_body i arg1 harg1 arg2 harg2 arg3 harg3)
    (inv (F := F) c arg1 harg1 arg2 harg2 arg3 x0 x1) (inv_step c i arg1 harg1 arg2 harg2 arg3 harg3 x0 x1)) $$ [H0 H1 H2]
  · unfold inv
    isplitl [H0]; · iexact H0
    isplitl [H1]; · iexact H1
    iexists f2; isplitr; · ipureintro; exact fun y hy => absurd hy (by omega)
    iexact H2
  iintro %acc Hinv
  unfold inv
  icases Hinv with ⟨H0, H1, ⟨%f, %hf, H2⟩⟩
  sl_step
  iapply Hk
  isplitl [H0]
  · iexists _; isplitr; · ipureintro; exact harg1.read_unread _
    iexact H0
  isplitl [H1]
  · iexists _; isplitr; · ipureintro; exact harg2.read_unread _
    iexact H1
  iexists f; isplitr
  swap; · iexact H2
  ipureintro
  funext y
  exact hf y (by
    have h1 : (y 0).val < 12288 := (y 0).isLt
    have h2 : k0_t1_loop.trips = 64 := trips_eq
    show (y 0).val < 192 * k0_t1_loop.trips
    omega)

end Loop

/-! ## The run of the call -/

variable (m : (ℓ : Loc nD τ sig) → Buf (Elt F) ℓ) (ρ : Dev nD → PrngReg)

abbrev ms0_0 (t : Fin cfg0.N) : Memref sig .tc .vmem S2048x1536 .i8 := win0_0.stage (cfg0.slots t 0)
abbrev ms0_1 (t : Fin cfg0.N) : Memref sig .tc .vmem S2048x1536 .i8 := win0_1.stage (cfg0.slots t 1)
abbrev ms0_2 (t : Fin cfg0.N) : Memref sig .tc .vmem S12288x128 .i32 := win0_2.stage (cfg0.slots t 2)

/-- The proof data: the codes' blocks stay, the output's block is packed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockPacked (iblk m c 0 t) (iblk m c 1 t)
  Φ _ := Pipeline.ΦA spec0 c
  q _ := fullShare
  owed _ := 0

/-- Its arrays are those the call finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = blockPacked (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body, run at any point from the inputs' blocks, leaves what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (kernelRun c (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body at point `t` is the body on that point's buffers. -/
theorem defs₀_row (t : Fin cfg0.N) :
    defs₀ (F := F) .tc cfg0.body (cfg0.bodyArgs t (cfg0.slots t)) = bodyAt0 t := by
  unfold defs₀; rw [Defs.onTc_tc]

/-- The body's triple, in the form the pipeline asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- (the rule's implicit arguments are found by unifying its conclusion with this one)
set_option backward.isDefEq.respectTransparency.types false in
/-- The whole program runs to its end, with every semaphore counter at zero there. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends, with every array of the call at what the blocks written back make it. -/
theorem run_main : θ_run defs (onTc (τ := τ) (main (F := F))) (s₀ m ρ) (Pipeline.FramePost cfgs (dats m) 0 (V m)) :=
  (θ_run defs _ _).mono (fun _ h => h.1) (run_main_quiescent m ρ)

/-- The kernel runs to the end without a fault, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

/-- The run, the result at what the write-backs leave, the arguments unchanged. -/
theorem run_blocks : θ_run defs (onTc (τ := τ) (main (F := F))) ⟨m, fun _ => 0, ρ⟩ fun r => (∀ c : Dev nD,
      r.2.mem ((c.tc : Thread nD τ).loc main_v0) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1 c).1 2, h.2.1 c⟩) (θ_run_and (run_main m ρ) (frame m ρ))

end Cert.PackIdeal.Body

end
-- ==== Proof.PackValue.lean ====
/- What the packing kernel's result array holds after the run: the blocks tile it, and each block holds the
   packed words of its code rows, so it holds those of both tables. -/
module

public import proofs.«01_k».proof.Proof.PackIdealFrame
public import Idealize.ShloMosaic.Lib.Pipeline.ValueKit

@[expose] public section

set_option maxRecDepth 65536

noncomputable section

namespace Cert.PackIdeal.Block

open Cert.PackIdeal Cert.PackIdeal.Gen Cert.PackIdeal.Body Cert.PackIdeal.Trip Cert.PackIdeal.Word
open Idealize.ShloMosaic Idealize.ShloMosaic.TcCoe Idealize.ShloMosaic.Tactic Idealize.SL.Sem

/-- Which block each window is on at each point. -/
theorem idx : ∀ t : Fin grid0.N, win0_0.index t = ![t.val, 0] ∧ win0_1.index t = ![t.val, 0] ∧ win0_2.index t = ![t.val, 0] := by decide +kernel

variable {F : FTy → Type} [FloatOps F] (m : (ℓ : Loc nD τ sig) → Buf (Elt F) ℓ) (c : Dev nD) (t : Fin cfg0.N)

theorem t_lt : t.val < 98 := t.isLt

/-- A point's code row `a`, among all. -/
def row (a : Fin 2048) : Fin 200704 := ⟨2048 * t.val + a.val, by have := t_lt t; omega⟩
/-- A point's word row `a`, among all. -/
def wrow (a : Fin 12288) : Fin 1204224 := ⟨12288 * t.val + a.val, by have := t_lt t; omega⟩

theorem emb0 (a : Fin 2048) (e : Fin 1536) : ((cfg0.win 0).blk t).view.emb (ix2 a e) = ix2 (row t a) e := by
  blk_ext [idx t, row]
theorem emb1 (a : Fin 2048) (e : Fin 1536) : ((cfg0.win 1).blk t).view.emb (ix2 a e) = ix2 (row t a) e := by
  blk_ext [idx t, row]
theorem emb2 (a : Fin 12288) (l : Fin 128) : ((cfg0.win 2).blk t).view.emb (ix2 a l) = ix2 (wrow t a) l := by
  blk_ext [idx t, wrow]

/-- The blocks are the tables' rows. -/
theorem iblk0_at (a : Fin 2048) (e : Fin 1536) : iblk m c 0 t (ix2 a e) = m ((c.tc : Thread nD τ).loc main_arg0) (ix2 (row t a) e) := by
  show V m c main_arg0 (((cfg0.win 0).blk t).view.emb (ix2 a e)) = _
  rw [emb0, V_main_arg0]
theorem iblk1_at (a : Fin 2048) (e : Fin 1536) : iblk m c 1 t (ix2 a e) = m ((c.tc : Thread nD τ).loc main_arg1) (ix2 (row t a) e) := by
  show V m c main_arg1 (((cfg0.win 1).blk t).view.emb (ix2 a e)) = _
  rw [emb1, V_main_arg1]

/-- Packed words of a block of rows are packed words of the tables. -/
theorem packed_block (X0 X1 : (⟨2, ![200704, 1536]⟩ : Shape).Idx → BitVec 8) (x0 x1 : (⟨2, ![2048, 1536]⟩ : Shape).Idx → BitVec 8)
    (h0 : ∀ (a : Fin 2048) (e : Fin 1536), x0 (ix2 a e) = X0 (ix2 (row t a) e)) (h1 : ∀ (a : Fin 2048) (e : Fin 1536), x1 (ix2 a e) = X1 (ix2 (row t a) e))
    (a : Fin 12288) (l : Fin 128) :
    packed (R := 2048) (N := 12288) (by omega) x0 x1 (ix2 a l) = packed (R := 200704) (N := 1204224) (by omega) X0 X1 (ix2 (wrow t a) l) := by
  have ht := t_lt t
  have key : ∀ (s : Fin 2) (hs : a.val % 6 / 3 = s.val), packed (R := 2048) (N := 12288) (by omega) x0 x1 (ix2 a l) = packed (R := 200704) (N := 1204224) (by omega) X0 X1 (ix2 (wrow t a) l) := fun s hs => by
    rw [packed_at (R := 2048) (N := 12288) (by omega) x0 x1 (ix2 a l) s ⟨a.val / 6, by omega⟩ ⟨a.val % 3, by omega⟩ l (by show a.val = 6 * (a.val / 6) + 3 * s.val + a.val % 3; omega) rfl,
      packed_at (R := 200704) (N := 1204224) (by omega) X0 X1 (ix2 (wrow t a) l) s (row t ⟨a.val / 6, by omega⟩) ⟨a.val % 3, by omega⟩ l (by show 12288 * t.val + a.val = 6 * (2048 * t.val + a.val / 6) + 3 * s.val + a.val % 3; omega) rfl]
    refine congrArg (fun f => word f _ l) (funext fun e => ?_)
    split
    · exact h0 _ e
    · exact h1 _ e
  exact key ⟨a.val % 6 / 3, by omega⟩ rfl

/-- The result: the packed words of both tables. -/
theorem result : (dats m 0 c).arrAt 2 cfg0.N = packed (R := 200704) (N := 1204224) (by omega) (m ((c.tc : Thread nD τ).loc main_arg0)) (m ((c.tc : Thread nD τ).loc main_arg1)) := by
  refine (dats m 0 c).arrAt_eq_of_covers 2 _ (by decide +kernel) fun t hf y => ?_
  blk_simp
  rw [after0_2]
  idx_vars y
  exact (packed_block t (m ((c.tc : Thread nD τ).loc main_arg0)) (m ((c.tc : Thread nD τ).loc main_arg1)) (iblk m c 0 t) (iblk m c 1 t) (iblk0_at m c t) (iblk1_at m c t) y0 y1).trans
    (congrArg (packed (R := 200704) (N := 1204224) _ (m ((c.tc : Thread nD τ).loc main_arg0)) (m ((c.tc : Thread nD τ).loc main_arg1))) (emb2 t y0 y1)).symm

end Cert.PackIdeal.Block

end
-- ==== Proof.PackRef.lean ====
/- The packing reference's result, element by element: every word is its four codes side by side. -/
module

public import proofs.«01_k».proof.Proof.Gen.PackReferenceIdeal
public import proofs.«01_k».proof.Proof.Gen.PackReferenceIdeal.Run
public import proofs.«01_k».proof.Proof.PackTrip
public import Idealize.ShloMosaic.Lib.Pointwise

@[expose] public section

set_option maxRecDepth 65536

noncomputable section

namespace Cert.PackReferenceIdeal.Ref

open Cert.PackReferenceIdeal Cert.PackReferenceIdeal.Gen
open Idealize.ShloMosaic Idealize.ShloMosaic.TcCoe Idealize.ShloMosaic.Tactic Idealize.SL.Sem
open Cert.PackIdeal.Word (word col)
open Cert.PackIdeal.Trip (packed packed_at)

/-- The codes as bytes, in twelve pieces a row. -/
def bytes (x : IVec S200704x1536 8) : IVec S200704x12x128 32 :=
  andi (shapeCast S200704x12x128 (extsi 32 x natLt_8_32) shapeCasts_S200704x1536_S200704x12x128) (broadcastInDim S200704x12x128 ![] bcast_S_S200704x12x128 (constantI S_ 32 255#32))

/-- One of the pieces. -/
def part (u : IVec S200704x12x128 32) (p : Fin 12) (h : S200704x12x128.Slices ![0, p.val, 0] S200704x1x128) : IVec S200704x1x128 32 :=
  broadcastInDim S200704x1x128 ![0, 2] bcast_S200704x128_S200704x1x128_0_2 (shapeCast S200704x128 (extractStridedSlice S200704x1x128 ![0, p.val, 0] u h) shapeCasts_S200704x1x128_S200704x128)

theorem part_at (u : IVec S200704x12x128 32) (p : Fin 12) (h : S200704x12x128.Slices ![0, p.val, 0] S200704x1x128) (e : Fin 200704) (l : Fin 128) :
    part u p h (ix3 e 0 l) = u (ix3 e p l) := by
  pointwise [part]

/-- Three pieces, one a word row. -/
def three (v0 v1 v2 : IVec S200704x1x128 32) : IVec S200704x3x128 32 :=
  concatenate S200704x3x128 1 [⟨S200704x1x128, v0⟩, ⟨S200704x1x128, v1⟩, ⟨S200704x1x128, v2⟩] concatenates_S200704x1x128_S200704x1x128_S200704x1x128_S200704x3x128_d1

theorem three_at (v : Fin 3 → IVec S200704x1x128 32) (e : Fin 200704) (j : Fin 3) (l : Fin 128) :
    three (v 0) (v 1) (v 2) (ix3 e j l) = v j (ix3 e 0 l) := by
  match j with
  | 0 => pointwise [three]
  | 1 => pointwise [three]
  | 2 => pointwise [three]

theorem bytes_at (x : IVec S200704x1536 8) (e : Fin 200704) (q : Fin 12) (l : Fin 128) :
    bytes x (ix3 e q l) = (x (ix2 e (col q l))).setWidth 32 := by
  have e1 : (⟨q.val * 128 + l.val, by omega⟩ : Fin 1536) = col q l := Fin.ext (by show q.val * 128 + l.val = 128 * q.val + l.val; omega)
  rw [← e1]
  refine Eq.trans ?_ (andi_signExtend_255 _)
  pointwise [bytes]

/-- The pieces `b` gives the three word rows. -/
def pieces (u : IVec S200704x12x128 32) (p : Fin 3 → Fin 12) (h : ∀ j, S200704x12x128.Slices ![0, (p j).val, 0] S200704x1x128) : IVec S200704x3x128 32 :=
  three (part u (p 0) (h 0)) (part u (p 1) (h 1)) (part u (p 2) (h 2))

theorem pieces_at (u : IVec S200704x12x128 32) (p : Fin 3 → Fin 12) (h : ∀ j, S200704x12x128.Slices ![0, (p j).val, 0] S200704x1x128) (e : Fin 200704) (j : Fin 3) (l : Fin 128) :
    pieces u p h (ix3 e j l) = u (ix3 e (p j) l) :=
  (three_at (fun j => part u (p j) (h j)) e j l).trans (part_at u (p j) (h j) e l)

/-- Four bytes side by side. -/
def side (g0 g1 g2 g3 : IVec S200704x3x128 32) : IVec S200704x3x128 32 :=
  ori (ori (ori g0 (Host.shli g1 (broadcastInDim S200704x3x128 ![] bcast_S_S200704x3x128 (constantI S_ 32 8#32)))) (Host.shli g2 (broadcastInDim S200704x3x128 ![] bcast_S_S200704x3x128 (constantI S_ 32 16#32))))
    (Host.shli g3 (broadcastInDim S200704x3x128 ![] bcast_S_S200704x3x128 (constantI S_ 32 24#32)))

theorem side_at (g0 g1 g2 g3 : IVec S200704x3x128 32) (k : S200704x3x128.Idx) :
    side g0 g1 g2 g3 k = g0 k ||| (g1 k <<< 8) ||| (g2 k <<< 16) ||| (g3 k <<< 24) := rfl

theorem sl (b : Fin 4) : ∀ j, S200704x12x128.Slices ![0, (Cert.PackIdeal.Word.piece j b).val, 0] S200704x1x128 := by
  match b with
  | 0 => exact fun j => match j with
    | 0 => slices_S200704x12x128_S200704x1x128_0_0_0
    | 1 => slices_S200704x12x128_S200704x1x128_0_1_0
    | 2 => slices_S200704x12x128_S200704x1x128_0_8_0
  | 1 => exact fun j => match j with
    | 0 => slices_S200704x12x128_S200704x1x128_0_2_0
    | 1 => slices_S200704x12x128_S200704x1x128_0_3_0
    | 2 => slices_S200704x12x128_S200704x1x128_0_9_0
  | 2 => exact fun j => match j with
    | 0 => slices_S200704x12x128_S200704x1x128_0_4_0
    | 1 => slices_S200704x12x128_S200704x1x128_0_5_0
    | 2 => slices_S200704x12x128_S200704x1x128_0_10_0
  | 3 => exact fun j => match j with
    | 0 => slices_S200704x12x128_S200704x1x128_0_6_0
    | 1 => slices_S200704x12x128_S200704x1x128_0_7_0
    | 2 => slices_S200704x12x128_S200704x1x128_0_11_0

/-- One table's words. -/
def words (x : IVec S200704x1536 8) : IVec S200704x3x128 32 :=
  side (pieces (bytes x) (fun j => Cert.PackIdeal.Word.piece j 0) (sl 0)) (pieces (bytes x) (fun j => Cert.PackIdeal.Word.piece j 1) (sl 1)) (pieces (bytes x) (fun j => Cert.PackIdeal.Word.piece j 2) (sl 2)) (pieces (bytes x) (fun j => Cert.PackIdeal.Word.piece j 3) (sl 3))

theorem words_at (x : IVec S200704x1536 8) (e : Fin 200704) (j : Fin 3) (l : Fin 128) :
    words x (ix3 e j l) = word (fun m => x (ix2 e m)) j l := by
  unfold words
  rw [side_at, pieces_at, pieces_at, pieces_at, pieces_at, bytes_at, bytes_at, bytes_at, bytes_at]
  rfl

/-- Both tables' words, the first's three rows before the second's, a word row a row. -/
def both (g0 g1 : IVec S200704x3x128 32) : IVec S1204224x128 32 :=
  shapeCast S1204224x128 (concatenate S200704x6x128 1 [⟨S200704x3x128, g0⟩, ⟨S200704x3x128, g1⟩] concatenates_S200704x3x128_S200704x3x128_S200704x6x128_d1) shapeCasts_S200704x6x128_S1204224x128

theorem both_at (g0 g1 : IVec S200704x3x128 32) (n : Fin 1204224) (l : Fin 128) :
    both g0 g1 (ix2 n l) = (if n.val % 6 < 3 then g0 else g1) (ix3 (⟨n.val / 6, by omega⟩ : Fin 200704) (⟨n.val % 3, by omega⟩ : Fin 3) l) := by
  pointwise [both]
  split
  · rename_i h
    exact congrArg (fun j => g0 (ix3 _ j l)) (Fin.ext (by show n.val % 6 = n.val % 3; omega))
  · rename_i h
    exact congrArg (fun j => g1 (ix3 _ j l)) (Fin.ext (by show n.val % 6 - 3 = n.val % 3; omega))

variable {F : FTy → Type} [FloatOps F]
variable (m : (ℓ : Loc nD τ sig) → Buf (Elt F) ℓ) (c : Dev nD)

/-- The reference's result is both tables' words. -/
theorem out_eq : Value.res_main_v107 m c = both (words (m ((c.tc : Thread nD τ).loc main_arg0))) (words (m ((c.tc : Thread nD τ).loc main_arg1))) := by
  unfold Value.res_main_v107
  rfl

/-- It is the packed words. -/
theorem out_packed : Value.res_main_v107 m c
    = packed (R := 200704) (N := 1204224) (by omega) (m ((c.tc : Thread nD τ).loc main_arg0)) (m ((c.tc : Thread nD τ).loc main_arg1)) := by
  rw [out_eq]
  generalize (m ((c.tc : Thread nD τ).loc main_arg0)) = x0
  generalize (m ((c.tc : Thread nD τ).loc main_arg1)) = x1
  funext y
  obtain ⟨n, l, rfl⟩ : ∃ (n : Fin 1204224) (l : Fin 128), y = ix2 n l := ⟨y 0, y 1, eq_ix2 y⟩
  rw [both_at]
  by_cases h : n.val % 6 < 3
  · rw [if_pos h, words_at]
    exact (packed_at (R := 200704) (N := 1204224) _ x0 x1 (ix2 n l) 0 ⟨n.val / 6, by omega⟩ ⟨n.val % 3, by omega⟩ l (by show n.val = 6 * (n.val / 6) + 3 * 0 + n.val % 3; omega) rfl).symm
  · rw [if_neg h, words_at]
    exact (packed_at (R := 200704) (N := 1204224) _ x0 x1 (ix2 n l) 1 ⟨n.val / 6, by omega⟩ ⟨n.val % 3, by omega⟩ l (by show n.val = 6 * (n.val / 6) + 3 * 1 + n.val % 3; omega) rfl).symm

end Cert.PackReferenceIdeal.Ref

end
-- ==== Proof.Pre.lean ====
/- What the precondition says of the two index arrays: every entry is one of the 448 keys' numbers. -/
module

public import proofs.«01_k».proof.Pre_pre
public import Idealize.ShloMosaic.Lib.ReduceAll
public import Idealize.ShloMosaic.Lib.Pointwise
public import Idealize.ShloMosaic.PureOps.Ideal

@[expose] public section

set_option maxRecDepth 65536

noncomputable section

namespace Cert.Pre_pre

open Idealize.ShloMosaic Idealize.ShloMosaic.Tactic

/-- The precondition's shape facts. -/
theorem facts : Facts where
  bcast_S_S4x1024x8x16 := by decide
  reducesTo_S4x1024x8x16_S_d0_1_2_3 := by decide
  h_S_ := by decide

/-- A word between 0 and 447, read signed, is the number of a key. -/
theorem word_key (x : BitVec 32) (h0 : IntOp.cmpi .sge x 0#32 = 1#1) (h1 : IntOp.cmpi .slt x 448#32 = 1#1) :
    ∃ v : Fin 448, x = BitVec.ofNat 32 v.val := by
  have e0 : (0#32).sle x = true := by
    revert h0; unfold IntOp.cmpi; cases hx : (0#32).sle x <;> simp [hx]
  have e1 : x.slt 448#32 = true := by
    revert h1; unfold IntOp.cmpi; cases hx : x.slt 448#32 <;> simp [hx]
  have g0 : 0 ≤ x.toInt := by simpa [BitVec.sle] using e0
  have g1 : x.toInt < 448 := by simpa [BitVec.slt] using e1
  have hlt := x.isLt
  have hx : x.toNat < 448 := by
    unfold BitVec.toInt at g0 g1
    split at g0 <;> omega
  exact ⟨⟨x.toNat, hx⟩, by simp⟩

/-- Where the precondition holds, every index of either array is the number of a key. -/
theorem keys [hF : Facts] (a0 : FVec Ideal S4x1024x1536 .bf16) (a1 : FVec Ideal S1536x8x192 .bf16) (a2 : FVec Ideal S8x2x448x96 .bf16)
    (a3 a4 : IVec S4x1024x8x16 32) (h : fn (F := Ideal) a0 a1 a2 a3 a4 = fun _ => 1#1) (i : S4x1024x8x16.Idx) :
    (∃ v : Fin 448, a3 i = BitVec.ofNat 32 v.val) ∧ (∃ v : Fin 448, a4 i = BitVec.ofNat 32 v.val) := by
  have e := Host.reduce_andi_all _ _ _ _ (fun a => a.elim0) (congrFun h (fun a => a.elim0)) i
  have and1 : ∀ x y : BitVec 1, IntOp.andi x y = 1#1 → x = 1#1 ∧ y = 1#1 := by decide
  obtain ⟨e, s1⟩ := and1 _ _ e
  obtain ⟨e, s0⟩ := and1 _ _ e
  obtain ⟨f0, f1⟩ := and1 _ _ e
  exact ⟨word_key _ f0 f1, word_key _ s0 s1⟩

end Cert.Pre_pre
-- ==== Proof.Arrays.lean ====
/- What the five input blocks hold of the arguments at each grid point: sixteen points, four of each
   batch, 256 tokens each; the weights and the keys whole, padded with zeros. -/
module

public import proofs.«01_k».proof.Proof.IdealFrame
public import Idealize.ShloMosaic.Lib.Pointwise
public import Idealize.ShloMosaic.Lib.Pipeline.ValueKit
public import Idealize.ShloMosaic.PureOps.Ideal
public import Idealize.ShloMosaic.Lib.StableHlo.ReadAt

@[expose] public section

set_option maxRecDepth 65536

noncomputable section

namespace Cert.KernelIdeal.Block

open Cert.KernelIdeal Cert.KernelIdeal.Gen Cert.KernelIdeal.Body
open Idealize.ShloMosaic Idealize.ShloMosaic.TcCoe Idealize.ShloMosaic.Tactic Idealize.SL.Sem

/-- Which block each window is on at each point. -/
theorem idx : ∀ t : Fin grid0.N, win0_0.index t = ![t.val, 0] ∧ win0_1.index t = ![0, 0] ∧ win0_2.index t = ![0, 0, 0]
    ∧ win0_3.index t = ![t.val / 4, 0, t.val % 4] ∧ win0_4.index t = ![t.val / 4, 0, t.val % 4]
    ∧ win0_5.index t = ![t.val, 0] ∧ win0_6.index t = ![t.val, 0] ∧ win0_7.index t = ![t.val / 4, 0, t.val % 4] := by decide +kernel

/-- The batch of a point's tokens. -/
def batch (t : Fin cfg0.N) : Fin 4 := ⟨t.val / 4, by have : t.val < 16 := t.isLt; omega⟩

/-- A point's token `a`, in its batch. -/
def token (t : Fin cfg0.N) (a : Fin 256) : Fin 1024 := ⟨256 * (t.val % 4) + a.val, by omega⟩

variable (m : (ℓ : Loc nD τ sig) → Buf (Elt Ideal) ℓ) (c : Dev nD) (t : Fin cfg0.N)

/-- The token rows as the blocks are cut from them. -/
theorem rows_at (n : Fin 4096) (e : Fin 1536) :
    V m c main_v4 (ix2 n e) = m ((c.tc : Thread nD τ).loc main_arg0) (ix3 (⟨n.val / 1024, by omega⟩ : Fin 4) (⟨n.val % 1024, by omega⟩ : Fin 1024) e) := by
  unfold V
  after_reads_at

/-- Zero as a float is zero. -/
theorem zero_float : (FloatOps.sitofp (F := Ideal) .bf16 0#32) = (0 : EReal) := by
  show (((0#32 : BitVec 32).toInt : ℝ) : EReal) = 0
  simp

/-- The weights as the kernel takes them: each head half's, transposed, with zero rows after its 96. -/
theorem weights_at (n : Fin 2048) (e : Fin 1536) :
    V m c main_v8 (ix2 n e)
      = if h : n.val % 128 < 96 then m ((c.tc : Thread nD τ).loc main_arg1) (ix3 e (⟨n.val / 256, by omega⟩ : Fin 8) (⟨96 * (n.val / 128 % 2) + n.val % 128, by omega⟩ : Fin 192)) else (0 : EReal) := by
  unfold V
  after_reads_at
  split
  · rename_i h
    refine Eq.trans ?_ (dif_pos h.2).symm
    exact congrArg₂ (fun (x : Fin 8) (y : Fin 192) => m (c, Proc.tc.devRef main_arg1) (ix3 e x y)) (Fin.ext (by show n.val / 128 / 2 = n.val / 256; omega)) (Fin.ext (by show n.val / 128 % 2 * 96 + n.val % 128 = 96 * (n.val / 128 % 2) + n.val % 128; omega))
  · rename_i h
    refine Eq.trans zero_float ?_
    symm
    apply dif_neg
    exact fun hh => h ⟨by omega, hh⟩

/-- The keys as the kernel takes them: each head half's, transposed, with zeros beyond its 96 and its 448. -/
theorem keys_at (K : Fin 16) (d : Fin 128) (n : Fin 512) :
    V m c main_v11 (ix3 K d n)
      = if h : d.val < 96 ∧ n.val < 448 then m ((c.tc : Thread nD τ).loc main_arg2) (ix4 (⟨K.val / 2, by omega⟩ : Fin 8) (⟨K.val % 2, by omega⟩ : Fin 2) (⟨n.val, h.2⟩ : Fin 448) (⟨d.val, h.1⟩ : Fin 96)) else (0 : EReal) := by
  unfold V
  after_reads_at
  exact dite_congr rfl (fun h => rfl) (fun h => zero_float)

/-- The first indices, slot by token. -/
theorem slots1_at (b : Fin 4) (l : Fin 128) (s : Fin 1024) :
    V m c main_v1 (ix3 b l s) = m ((c.tc : Thread nD τ).loc main_arg3) (ix4 b s (⟨l.val / 16, by omega⟩ : Fin 8) (⟨l.val % 16, by omega⟩ : Fin 16)) := by
  unfold V
  after_reads_at

/-- The second indices, slot by token. -/
theorem slots2_at (b : Fin 4) (l : Fin 128) (s : Fin 1024) :
    V m c main_v3 (ix3 b l s) = m ((c.tc : Thread nD τ).loc main_arg4) (ix4 b s (⟨l.val / 16, by omega⟩ : Fin 8) (⟨l.val % 16, by omega⟩ : Fin 16)) := by
  unfold V
  after_reads_at

/-- A point's token `a`, among all. -/
def row (a : Fin 256) : Fin 4096 := ⟨256 * t.val + a.val, by have : t.val < 16 := t.isLt; omega⟩

/-! Where each block lies in its array. -/

theorem emb0 (a : Fin 256) (e : Fin 1536) : ((cfg0.win 0).blk t).view.emb (ix2 a e) = ix2 (row t a) e := by
  blk_ext [idx t, row]
theorem emb1 (n : Fin 2048) (e : Fin 1536) : ((cfg0.win 1).blk t).view.emb (ix2 n e) = ix2 n e := by
  blk_ext [idx t]
theorem emb2 (K : Fin 16) (d : Fin 128) (n : Fin 512) : ((cfg0.win 2).blk t).view.emb (ix3 K d n) = ix3 K d n := by
  blk_ext [idx t]
theorem emb3 (a : Fin 256) (l : Fin 128) : ((cfg0.win 3).blk t).view.emb (ix3 0 l a) = ix3 (batch t) l (token t a) := by
  blk_ext [idx t, batch, token]
theorem emb4 (a : Fin 256) (l : Fin 128) : ((cfg0.win 4).blk t).view.emb (ix3 0 l a) = ix3 (batch t) l (token t a) := by
  blk_ext [idx t, batch, token]
theorem emb5 (a : Fin 256) (l : Fin 128) : ((cfg0.win 5).blk t).view.emb (ix2 a l) = ix2 (row t a) l := by
  blk_ext [idx t, row]
theorem emb6 (a : Fin 256) (l : Fin 128) : ((cfg0.win 6).blk t).view.emb (ix2 a l) = ix2 (row t a) l := by
  blk_ext [idx t, row]
theorem emb7 (a : Fin 256) (l : Fin 128) : ((cfg0.win 7).blk t).view.emb (ix3 0 l a) = ix3 (batch t) l (token t a) := by
  blk_ext [idx t, batch, token]

/-- A row's batch and token. -/
theorem row_split (a : Fin 256) (h0 : (row t a).val / 1024 < 4) (h1 : (row t a).val % 1024 < 1024) :
    (⟨(row t a).val / 1024, h0⟩ : Fin 4) = batch t ∧ (⟨(row t a).val % 1024, h1⟩ : Fin 1024) = token t a := by
  have ht : t.val < 16 := t.isLt
  exact ⟨Fin.ext (by show (256 * t.val + a.val) / 1024 = t.val / 4; omega), Fin.ext (by show (256 * t.val + a.val) % 1024 = 256 * (t.val % 4) + a.val; omega)⟩

/-- The first block: the point's 256 token rows. -/
theorem iblk0_at (a : Fin 256) (e : Fin 1536) :
    iblk m c 0 t (ix2 a e) = m ((c.tc : Thread nD τ).loc main_arg0) (ix3 (batch t) (token t a) e) := by
  show V m c main_v4 (((cfg0.win 0).blk t).view.emb (ix2 a e)) = _
  rw [emb0, rows_at, (row_split t a (Nat.div_lt_of_lt_mul (row t a).isLt) (Nat.mod_lt _ (by decide))).1, (row_split t a (Nat.div_lt_of_lt_mul (row t a).isLt) (Nat.mod_lt _ (by decide))).2]

/-- The second block: the weights, whole. -/
theorem iblk1_at (n : Fin 2048) (e : Fin 1536) : iblk m c 1 t (ix2 n e) = V m c main_v8 (ix2 n e) := by
  show V m c main_v8 (((cfg0.win 1).blk t).view.emb (ix2 n e)) = _
  rw [emb1]

/-- The third block: the keys, whole. -/
theorem iblk2_at (K : Fin 16) (d : Fin 128) (n : Fin 512) : iblk m c 2 t (ix3 K d n) = V m c main_v11 (ix3 K d n) := by
  show V m c main_v11 (((cfg0.win 2).blk t).view.emb (ix3 K d n)) = _
  rw [emb2]

/-- The fourth block: the first indices of the point's tokens, slot by token. -/
theorem iblk3_at (l : Fin 128) (a : Fin 256) :
    iblk m c 3 t (ix3 0 l a) = m ((c.tc : Thread nD τ).loc main_arg3) (ix4 (batch t) (token t a) (⟨l.val / 16, by omega⟩ : Fin 8) (⟨l.val % 16, by omega⟩ : Fin 16)) := by
  show V m c main_v1 (((cfg0.win 3).blk t).view.emb (ix3 0 l a)) = _
  rw [emb3, slots1_at]

/-- The fifth block: the second indices. -/
theorem iblk4_at (l : Fin 128) (a : Fin 256) :
    iblk m c 4 t (ix3 0 l a) = m ((c.tc : Thread nD τ).loc main_arg4) (ix4 (batch t) (token t a) (⟨l.val / 16, by omega⟩ : Fin 8) (⟨l.val % 16, by omega⟩ : Fin 16)) := by
  show V m c main_v3 (((cfg0.win 4).blk t).view.emb (ix3 0 l a)) = _
  rw [emb4, slots2_at]

end Cert.KernelIdeal.Block
-- ==== Proof.Block.lean ====
/- What one grid point of the routing kernel leaves in its three named output blocks, as vector
   expressions of the five input blocks: the queries of the block's 256 tokens, each head's scores
   against its two sets of keys, the picking of the sixteen slots' scores, and the softmax of each
   head's sixteen slots, written lane by lane as the kernel writes them. -/
module

public import proofs.«01_k».proof.Proof.IdealFrame
public import Idealize.ShloMosaic.Lib.Pipeline.ValueKit

@[expose] public section

set_option maxRecDepth 65536

noncomputable section

namespace Cert.KernelIdeal.Block

open Cert.KernelIdeal Cert.KernelIdeal.Gen Cert.KernelIdeal.Body
open Idealize.ShloMosaic Idealize.ShloMosaic.TcCoe Idealize.ShloMosaic.Tactic Idealize.SL.Sem

variable {F : FTy → Type} [FloatOps F]

/-- The lane numbers: at `(token, lane)`, the lane. -/
def lanes : IVec S256x128 32 := iota .tc S256x128 32 [1] iota_S256x128_d1_w32

/-- For each lane: four times its head, plus the number of the 128-wide piece its index falls in. -/
def whereOf (i : IVec S256x128 32) : IVec S256x128 32 := k0_pay21 i lanes 16#32 k0_pay18 k0_pay19 k0_pay20

/-- For each lane: its index within the 128-wide piece. -/
def withinOf (i : IVec S256x128 32) : IVec S256x128 32 := k0_pay22 i 128#32 (Scalar.cmpi .eq 128#32 0#32)

/-- The place within the piece, a negative one counted from the piece's end. -/
def wrapOf (w : IVec S256x128 32) : IVec S256x128 32 :=
  shapeCast S256x128 (shapeCast S256x128x1 (select (cmpi .slt w (broadcast S256x128 0#32)) (addi w (broadcast S256x128 128#32)) w) shapeCasts_S256x128_S256x128x1) shapeCasts_S256x128x1_S256x128

/-- The lanes whose piece is piece 0 of the head with number `n / 4` take their score there; the others keep `r`. -/
def pick0 (n : BitVec 32) (w wi : IVec S256x128 32) (s : FVec F S256x512 .f32) (r : FVec F S256x128 .f32) : FVec F S256x128 .f32 :=
  select (cmpi .eq w (broadcast S256x128 n)) (dynamicGather 1 (extractStridedSlice S256x128 ![0, 0] s slices_S256x512_o0_0_S256x128) (wrapOf wi)) r
/-- The same for piece 1. -/
def pick1 (n : BitVec 32) (w wi : IVec S256x128 32) (s : FVec F S256x512 .f32) (r : FVec F S256x128 .f32) : FVec F S256x128 .f32 :=
  select (cmpi .eq w (broadcast S256x128 n)) (dynamicGather 1 (extractStridedSlice S256x128 ![0, 128] s slices_S256x512_o0_128_S256x128) (wrapOf wi)) r
/-- The same for piece 2. -/
def pick2 (n : BitVec 32) (w wi : IVec S256x128 32) (s : FVec F S256x512 .f32) (r : FVec F S256x128 .f32) : FVec F S256x128 .f32 :=
  select (cmpi .eq w (broadcast S256x128 n)) (dynamicGather 1 (extractStridedSlice S256x128 ![0, 256] s slices_S256x512_o0_256_S256x128) (wrapOf wi)) r
/-- The same for piece 3. -/
def pick3 (n : BitVec 32) (w wi : IVec S256x128 32) (s : FVec F S256x512 .f32) (r : FVec F S256x128 .f32) : FVec F S256x128 .f32 :=
  select (cmpi .eq w (broadcast S256x128 n)) (dynamicGather 1 (extractStridedSlice S256x128 ![0, 384] s slices_S256x512_o0_384_S256x128) (wrapOf wi)) r

/-- One head's four picks. -/
def head (n0 n1 n2 n3 : BitVec 32) (w wi : IVec S256x128 32) (s : FVec F S256x512 .f32) (r : FVec F S256x128 .f32) : FVec F S256x128 .f32 :=
  pick3 n3 w wi s (pick2 n2 w wi s (pick1 n1 w wi s (pick0 n0 w wi s r)))

/-- One head half's scores: its 128 query lanes against its keys. -/
def scores (q : Vec F S256x128 .bf16) (k : Vec F S1x128x512 .bf16) : FVec F S256x512 .f32 :=
  matmul dot_S256x128_S128x512_S256x512_1_0_0_1_n_n none q (shapeCast S128x512 k shapeCasts_S1x128x512_S128x512) (constant S256x512 .f32 0x00000000#32)

/-- Zero on every lane. -/
def constZero : FVec F S256x128 .f32 := broadcast S256x128 (Scalar.ofBits .f32 0x00000000#32)

/-- The first halves' picked scores. -/
def half0 (w wi : IVec S256x128 32) (q : Vec F S256x2048 .bf16) (ks : Vec F S16x128x512 .bf16) : FVec F S256x128 .f32 :=
  head 28#32 29#32 30#32 31#32 w wi (scores (View.ld q (Rect.unit (s := S256x2048) ![0, 1792] S256x128.size inb_S256x2048_S256x128_0_1792)) (View.ld ks (Rect.unit (s := S16x128x512) ![14, 0, 0] S1x128x512.size inb_S16x128x512_S1x128x512_14_0_0)))
    (head 24#32 25#32 26#32 27#32 w wi (scores (View.ld q (Rect.unit (s := S256x2048) ![0, 1536] S256x128.size inb_S256x2048_S256x128_0_1536)) (View.ld ks (Rect.unit (s := S16x128x512) ![12, 0, 0] S1x128x512.size inb_S16x128x512_S1x128x512_12_0_0)))
    (head 20#32 21#32 22#32 23#32 w wi (scores (View.ld q (Rect.unit (s := S256x2048) ![0, 1280] S256x128.size inb_S256x2048_S256x128_0_1280)) (View.ld ks (Rect.unit (s := S16x128x512) ![10, 0, 0] S1x128x512.size inb_S16x128x512_S1x128x512_10_0_0)))
    (head 16#32 17#32 18#32 19#32 w wi (scores (View.ld q (Rect.unit (s := S256x2048) ![0, 1024] S256x128.size inb_S256x2048_S256x128_0_1024)) (View.ld ks (Rect.unit (s := S16x128x512) ![8, 0, 0] S1x128x512.size inb_S16x128x512_S1x128x512_8_0_0)))
    (head 12#32 13#32 14#32 15#32 w wi (scores (View.ld q (Rect.unit (s := S256x2048) ![0, 768] S256x128.size inb_S256x2048_S256x128_0_768)) (View.ld ks (Rect.unit (s := S16x128x512) ![6, 0, 0] S1x128x512.size inb_S16x128x512_S1x128x512_6_0_0)))
    (head 8#32 9#32 10#32 11#32 w wi (scores (View.ld q (Rect.unit (s := S256x2048) ![0, 512] S256x128.size inb_S256x2048_S256x128_0_512)) (View.ld ks (Rect.unit (s := S16x128x512) ![4, 0, 0] S1x128x512.size inb_S16x128x512_S1x128x512_4_0_0)))
    (head 4#32 5#32 6#32 7#32 w wi (scores (View.ld q (Rect.unit (s := S256x2048) ![0, 256] S256x128.size inb_S256x2048_S256x128_0_256)) (View.ld ks (Rect.unit (s := S16x128x512) ![2, 0, 0] S1x128x512.size inb_S16x128x512_S1x128x512_2_0_0)))
    (head 0#32 1#32 2#32 3#32 w wi (scores (View.ld q (Rect.unit (s := S256x2048) ![0, 0] S256x128.size inb_S256x2048_S256x128_0_0)) (View.ld ks (Rect.unit (s := S16x128x512) ![0, 0, 0] S1x128x512.size inb_S16x128x512_S1x128x512_0_0_0)))
    ((constZero)))))))))

/-- The second halves' picked scores. -/
def half1 (w wi : IVec S256x128 32) (q : Vec F S256x2048 .bf16) (ks : Vec F S16x128x512 .bf16) : FVec F S256x128 .f32 :=
  head 28#32 29#32 30#32 31#32 w wi (scores (View.ld q (Rect.unit (s := S256x2048) ![0, 1920] S256x128.size inb_S256x2048_S256x128_0_1920)) (View.ld ks (Rect.unit (s := S16x128x512) ![15, 0, 0] S1x128x512.size inb_S16x128x512_S1x128x512_15_0_0)))
    (head 24#32 25#32 26#32 27#32 w wi (scores (View.ld q (Rect.unit (s := S256x2048) ![0, 1664] S256x128.size inb_S256x2048_S256x128_0_1664)) (View.ld ks (Rect.unit (s := S16x128x512) ![13, 0, 0] S1x128x512.size inb_S16x128x512_S1x128x512_13_0_0)))
    (head 20#32 21#32 22#32 23#32 w wi (scores (View.ld q (Rect.unit (s := S256x2048) ![0, 1408] S256x128.size inb_S256x2048_S256x128_0_1408)) (View.ld ks (Rect.unit (s := S16x128x512) ![11, 0, 0] S1x128x512.size inb_S16x128x512_S1x128x512_11_0_0)))
    (head 16#32 17#32 18#32 19#32 w wi (scores (View.ld q (Rect.unit (s := S256x2048) ![0, 1152] S256x128.size inb_S256x2048_S256x128_0_1152)) (View.ld ks (Rect.unit (s := S16x128x512) ![9, 0, 0] S1x128x512.size inb_S16x128x512_S1x128x512_9_0_0)))
    (head 12#32 13#32 14#32 15#32 w wi (scores (View.ld q (Rect.unit (s := S256x2048) ![0, 896] S256x128.size inb_S256x2048_S256x128_0_896)) (View.ld ks (Rect.unit (s := S16x128x512) ![7, 0, 0] S1x128x512.size inb_S16x128x512_S1x128x512_7_0_0)))
    (head 8#32 9#32 10#32 11#32 w wi (scores (View.ld q (Rect.unit (s := S256x2048) ![0, 640] S256x128.size inb_S256x2048_S256x128_0_640)) (View.ld ks (Rect.unit (s := S16x128x512) ![5, 0, 0] S1x128x512.size inb_S16x128x512_S1x128x512_5_0_0)))
    (head 4#32 5#32 6#32 7#32 w wi (scores (View.ld q (Rect.unit (s := S256x2048) ![0, 384] S256x128.size inb_S256x2048_S256x128_0_384)) (View.ld ks (Rect.unit (s := S16x128x512) ![3, 0, 0] S1x128x512.size inb_S16x128x512_S1x128x512_3_0_0)))
    (head 0#32 1#32 2#32 3#32 w wi (scores (View.ld q (Rect.unit (s := S256x2048) ![0, 128] S256x128.size inb_S256x2048_S256x128_0_128)) (View.ld ks (Rect.unit (s := S16x128x512) ![1, 0, 0] S1x128x512.size inb_S16x128x512_S1x128x512_1_0_0)))
    ((constZero)))))))))

/-- Each lane's partner at distance `d` (`e` is `128 - d`): the lane `d` up where the lane's bit `d` is clear, else `d` down. -/
def partner (d e : BitVec 32) (u : FVec F S256x128 .f32) : FVec F S256x128 .f32 :=
  select (cmpi .eq (andi lanes (broadcast S256x128 d)) (broadcast S256x128 0#32)) (dynamicRotate 1 e none u rotates_S256x128_d1) (dynamicRotate 1 d none u rotates_S256x128_d1)

/-- The largest of each group of sixteen lanes, on each of the sixteen, by four exchanges. -/
def groupMax (r : FVec F S256x128 .f32) : FVec F S256x128 .f32 :=
  let a := maximumf r (partner 1#32 127#32 r)
  let b := maximumf a (partner 2#32 126#32 a)
  let c := maximumf b (partner 4#32 124#32 b)
  maximumf c (partner 8#32 120#32 c)

/-- The sum of each group of sixteen lanes, on each of the sixteen, by four exchanges. -/
def groupSum (r : FVec F S256x128 .f32) : FVec F S256x128 .f32 :=
  let a := addf r (partner 1#32 127#32 r)
  let b := addf a (partner 2#32 126#32 a)
  let c := addf b (partner 4#32 124#32 b)
  addf c (partner 8#32 120#32 c)

/-- The softmax of each group of sixteen lanes. -/
def gates (r : FVec F S256x128 .f32) : FVec F S256x128 .f32 :=
  let e := exp (subf r (groupMax r))
  divf e (groupSum e)

/-- The block's gates from the five input blocks. -/
def gatesBlock (x0 : Vec F S256x1536 .bf16) (x1 : Vec F S2048x1536 .bf16) (x2 : Vec F S16x128x512 .bf16) (x3 x4 : Vec F S1x128x256 .i32) : FVec F S256x128 .f32 :=
  gates (addf (half0 (whereOf (k0_pay15 x3)) (withinOf (k0_pay15 x3)) (k0_pay4 x0 x1) x2) (half1 (whereOf (k0_pay16 x4)) (withinOf (k0_pay16 x4)) (k0_pay4 x0 x1) x2))

/-- A load of part of the query scratch after the one store that filled it: that part of what was stored. -/
theorem readCov_whole (v : View sig .tc .vmem S256x2048 .bf16) (w : Vec F S256x2048 .bf16) (r : Rect S256x2048) :
    v.readCov (Val := Elt F) [(⟨Rect.unit ![0, 0] ![256, 2048] inb_S256x2048_S256x2048_0_0, w⟩ : View.Piece (Elt F) S256x2048 .bf16)] r.toLoadRect = View.ld w r := by
  have h0 : (![0, 0] : Fin S256x2048.rank → ℕ) = fun _ => 0 := by funext a; fin_cases a <;> rfl
  have h := View.readCov_eq_canon_ld (Val := Elt F) v [(⟨Rect.unit (s := S256x2048) ![0, 0] S256x2048.size inb_S256x2048_S256x2048_0_0, w⟩ : View.Piece (Elt F) S256x2048 .bf16)] r
    (fun y => ⟨_, List.mem_singleton_self _, View.mem_set_unit_zero (S := S256x2048) h0 inb_S256x2048_S256x2048_0_0 y⟩)
  rw [View.canon_cons_unit_zero (S := S256x2048) h0] at h
  exact h

/-- Output 5's block: each slot's expert number. -/
theorem out5_eq (c : Dev nD) (t : Fin cfg0.N) (x0 : Vec F S256x1536 .bf16) (x1 : Vec F S2048x1536 .bf16) (x2 : Vec F S16x128x512 .bf16) (x3 x4 : Vec F S1x128x256 .i32) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) x0 x1 x2 x3 x4
      = k0_pay17 x3 x4 := by
  frame_out

/-- Output 6's block: the gates, token by lane. -/
theorem out6_eq (c : Dev nD) (t : Fin cfg0.N) (x0 : Vec F S256x1536 .bf16) (x1 : Vec F S2048x1536 .bf16) (x2 : Vec F S16x128x512 .bf16) (x3 x4 : Vec F S1x128x256 .i32) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) x0 x1 x2 x3 x4
      = gatesBlock x0 x1 x2 x3 x4 := by
  frame_out
  simp only [readCov_whole]
  rfl

/-- Output 7's block: the same gates, lane by token. -/
theorem out7_eq (c : Dev nD) (t : Fin cfg0.N) (x0 : Vec F S256x1536 .bf16) (x1 : Vec F S2048x1536 .bf16) (x2 : Vec F S16x128x512 .bf16) (x3 x4 : Vec F S1x128x256 .i32) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) x0 x1 x2 x3 x4
      = shapeCast S1x128x256 (transpose S128x256 [1, 0] (gatesBlock x0 x1 x2 x3 x4) transposes_S256x128_p1_0_S128x256) shapeCasts_S128x256_S1x128x256 := by
  frame_out
  simp only [readCov_whole]
  rfl

end Cert.KernelIdeal.Block
-- ==== Proof.BlockAt.lean ====
/- The block's parts read at an index, over the extended reals: which tile and lane a slot's index
   names, what one key tile's pick leaves, and a head's scores at its slots. -/
module

public import proofs.«01_k».proof.Proof.Block
public import Idealize.ShloMosaic.Lib.Pointwise
public import Idealize.ShloMosaic.PureOps.Ideal

@[expose] public section

set_option maxRecDepth 65536

noncomputable section

namespace Cert.KernelIdeal.Block

open Cert.KernelIdeal Cert.KernelIdeal.Gen Cert.KernelIdeal.Body
open Idealize.ShloMosaic Idealize.ShloMosaic.TcCoe Idealize.ShloMosaic.Tactic Idealize.SL.Sem

/-- The tile a slot's index names: four of its head, by the index's hundreds of 128. -/
theorem whereOf_at (i : IVec S256x128 32) (a : Fin 256) (l : Fin 128) (v : Fin 448) (h : i (ix2 a l) = BitVec.ofNat 32 v.val) :
    whereOf i (ix2 a l) = BitVec.ofNat 32 (4 * (l.val / 16) + v.val / 128) := by
  pointwise [whereOf, k0_pay21, k0_pay18, k0_pay19, k0_pay20, lanes]
  rw [h]
  clear h
  refine (congrArg₂ (fun x y => IntOp.addi (IntOp.muli x 4#32) y) (?_ : _ = BitVec.ofNat 32 (l.val / 16)) (?_ : _ = BitVec.ofNat 32 (v.val / 128))).trans ?_
  · revert l; decide +kernel
  · revert v; decide +kernel
  · have hl : l.val / 16 < 8 := by omega
    have hv : v.val / 128 < 4 := by omega
    generalize l.val / 16 = x at hl
    generalize v.val / 128 = y at hv
    have key : ∀ (x : Fin 8) (y : Fin 4), IntOp.addi (IntOp.muli (BitVec.ofNat 32 x.val) 4#32) (BitVec.ofNat 32 y.val) = BitVec.ofNat 32 (4 * x.val + y.val) := by decide +kernel
    exact key ⟨x, hl⟩ ⟨y, hv⟩

/-- The lane of that tile. -/
theorem withinOf_at (i : IVec S256x128 32) (a : Fin 256) (l : Fin 128) (v : Fin 448) (h : i (ix2 a l) = BitVec.ofNat 32 v.val) :
    wrapOf (withinOf i) (ix2 a l) = BitVec.ofNat 32 (v.val % 128) := by
  pointwise [wrapOf, withinOf, k0_pay22, lanes]
  rw [h]
  clear h
  revert v; decide +kernel

/-- A choice on an equality of words. -/
theorem select_eq {α : Type} (x y : BitVec 32) (p q : α) : Scalar.select (IntOp.cmpi .eq x y) p q = if x = y then p else q := by
  unfold Scalar.select IntOp.cmpi
  by_cases hxy : x = y
  · simp [hxy]
  · have : (x == y) = false := by simpa using hxy
    simp [hxy, this]

/-- A small word's number, again as a lane. -/
theorem lane_word (u : Fin 128) : (BitVec.ofNat 32 u.val).toNat % 128 = u.val := by
  revert u; decide +kernel

section Pick
variable (n : BitVec 32) (w wi : IVec S256x128 32) (s : FVec Ideal S256x512 .f32) (r : FVec Ideal S256x128 .f32) (a : Fin 256) (l : Fin 128) (u : Fin 128)

/-- The first tile's pick. -/
theorem pick0_at (h : wrapOf wi (ix2 a l) = BitVec.ofNat 32 u.val) :
    pick0 n w wi s r (ix2 a l) = if w (ix2 a l) = n then s (ix2 a ⟨0 + u.val, by omega⟩) else r (ix2 a l) := by
  have hu := lane_word u
  pointwise [pick0]
  rw [select_eq]
  congr 3
  refine Fin.ext ?_
  simp only [h, hu, Nat.zero_add]

/-- The second tile's pick. -/
theorem pick1_at (h : wrapOf wi (ix2 a l) = BitVec.ofNat 32 u.val) :
    pick1 n w wi s r (ix2 a l) = if w (ix2 a l) = n then s (ix2 a ⟨128 + u.val, by omega⟩) else r (ix2 a l) := by
  have hu := lane_word u
  pointwise [pick1]
  rw [select_eq]
  congr 3
  refine Fin.ext ?_
  simp only [h, hu]

/-- The third tile's pick. -/
theorem pick2_at (h : wrapOf wi (ix2 a l) = BitVec.ofNat 32 u.val) :
    pick2 n w wi s r (ix2 a l) = if w (ix2 a l) = n then s (ix2 a ⟨256 + u.val, by omega⟩) else r (ix2 a l) := by
  have hu := lane_word u
  pointwise [pick2]
  rw [select_eq]
  congr 3
  refine Fin.ext ?_
  simp only [h, hu]

/-- The fourth tile's pick. -/
theorem pick3_at (h : wrapOf wi (ix2 a l) = BitVec.ofNat 32 u.val) :
    pick3 n w wi s r (ix2 a l) = if w (ix2 a l) = n then s (ix2 a ⟨384 + u.val, by omega⟩) else r (ix2 a l) := by
  have hu := lane_word u
  pointwise [pick3]
  rw [select_eq]
  congr 3
  refine Fin.ext ?_
  simp only [h, hu]

end Pick

/-- A head's four tiles leave a slot's score where the slot is the head's, and what was there before elsewhere. -/
theorem head_at (g : Fin 8) (n0 n1 n2 n3 : BitVec 32)
    (e0 : n0 = BitVec.ofNat 32 (4 * g.val)) (e1 : n1 = BitVec.ofNat 32 (4 * g.val + 1)) (e2 : n2 = BitVec.ofNat 32 (4 * g.val + 2)) (e3 : n3 = BitVec.ofNat 32 (4 * g.val + 3))
    (i : IVec S256x128 32) (s : FVec Ideal S256x512 .f32) (r : FVec Ideal S256x128 .f32) (a : Fin 256) (l : Fin 128) (v : Fin 448)
    (h : i (ix2 a l) = BitVec.ofNat 32 v.val) :
    head n0 n1 n2 n3 (whereOf i) (withinOf i) s r (ix2 a l) = if l.val / 16 = g.val then s (ix2 a ⟨v.val, by omega⟩) else r (ix2 a l) := by
  subst e0 e1 e2 e3
  have hw := whereOf_at i a l v h
  have hu := withinOf_at i a l v h
  have hu' : wrapOf (withinOf i) (ix2 a l) = BitVec.ofNat 32 (⟨v.val % 128, by omega⟩ : Fin 128).val := hu
  have word : ∀ x y : Fin 32, BitVec.ofNat 32 x.val = BitVec.ofNat 32 y.val ↔ x.val = y.val := by decide +kernel
  have cmp : ∀ k : Nat, k < 4 → (whereOf i (ix2 a l) = BitVec.ofNat 32 (4 * g.val + k) ↔ 4 * (l.val / 16) + v.val / 128 = 4 * g.val + k) := fun k hk => by
    rw [hw]
    exact word ⟨4 * (l.val / 16) + v.val / 128, by omega⟩ ⟨4 * g.val + k, by omega⟩
  unfold head
  rw [pick3_at _ _ _ _ _ a l _ hu', pick2_at _ _ _ _ _ a l _ hu', pick1_at _ _ _ _ _ a l _ hu', pick0_at _ _ _ _ _ a l _ hu']
  have c0 := cmp 0 (by omega)
  simp only [Nat.add_zero] at c0
  simp only [c0, cmp 1 (by omega), cmp 2 (by omega), cmp 3 (by omega)]
  have hv := v.isLt
  by_cases hg : l.val / 16 = g.val
  · rw [if_pos hg]
    have hq : v.val / 128 = 0 ∨ v.val / 128 = 1 ∨ v.val / 128 = 2 ∨ v.val / 128 = 3 := by omega
    rcases hq with hq | hq | hq | hq
    · rw [if_neg (by omega), if_neg (by omega), if_neg (by omega), if_pos (by omega)]
      exact congrArg (fun z => s (ix2 a z)) (Fin.ext (by show 0 + v.val % 128 = v.val; omega))
    · rw [if_neg (by omega), if_neg (by omega), if_pos (by omega)]
      exact congrArg (fun z => s (ix2 a z)) (Fin.ext (by show 128 + v.val % 128 = v.val; omega))
    · rw [if_neg (by omega), if_pos (by omega)]
      exact congrArg (fun z => s (ix2 a z)) (Fin.ext (by show 256 + v.val % 128 = v.val; omega))
    · rw [if_pos (by omega)]
      exact congrArg (fun z => s (ix2 a z)) (Fin.ext (by show 384 + v.val % 128 = v.val; omega))
  · rw [if_neg hg, if_neg (by omega), if_neg (by omega), if_neg (by omega), if_neg (by omega)]

/-- One head's scores: each query row with each key column. -/
theorem scores_at (q : Vec Ideal S256x128 .bf16) (k : Vec Ideal S1x128x512 .bf16) (a : Fin 256) (n : Fin 512) :
    scores q k (ix2 a n) = ∑ d : Fin 128, q (ix2 a d) * k (ix3 0 d n) := by
  pointwise [scores]

/-- The block's queries: its rows with the whole of the weights. -/
theorem pay4_at (x0 : Vec Ideal S256x1536 .bf16) (x1 : Vec Ideal S2048x1536 .bf16) (a : Fin 256) (n : Fin 2048) :
    k0_pay4 x0 x1 (ix2 a n) = ∑ e : Fin 1536, x0 (ix2 a e) * x1 (ix2 n e) := by
  pointwise [k0_pay4, k0_pay3]

end Cert.KernelIdeal.Block
-- ==== Proof.Softmax.lean ====
/- A head's scores at its slots, and the softmax of each head's sixteen lanes: the four exchanges
   leave on every lane of a head the largest, or the sum, of the head's sixteen. -/
module

public import proofs.«01_k».proof.Proof.BlockAt

@[expose] public section

set_option maxRecDepth 65536

noncomputable section

namespace Cert.KernelIdeal.Block

open Cert.KernelIdeal Cert.KernelIdeal.Gen Cert.KernelIdeal.Body
open Idealize.ShloMosaic Idealize.ShloMosaic.TcCoe Idealize.ShloMosaic.Tactic Idealize.SL.Sem

/-- Slot `k` of head `g`, among the 128 lanes. -/
def lane (g : Fin 8) (k : Fin 16) : Fin 128 := ⟨16 * g.val + k.val, by omega⟩

theorem lane_div (g : Fin 8) (k : Fin 16) : (lane g k).val / 16 = g.val := by
  show (16 * g.val + k.val) / 16 = g.val
  omega

section Half
variable (i : IVec S256x128 32) (q : Vec Ideal S256x2048 .bf16) (ks : Vec Ideal S16x128x512 .bf16) (a : Fin 256) (k : Fin 16) (v : Fin 448)

/-- A slot's score in the first half of its head's query. -/
theorem half0_at (g : Fin 8) (h : i (ix2 a (lane g k)) = BitVec.ofNat 32 v.val) :
    half0 (whereOf i) (withinOf i) q ks (ix2 a (lane g k))
      = ∑ d : Fin 128, q (ix2 a ⟨128 * (2 * g.val + 0) + d.val, by omega⟩) * ks (ix3 ⟨2 * g.val + 0, by omega⟩ d ⟨v.val, by omega⟩) := by
  have hl := lane_div g k
  unfold half0
  rw [head_at 7 28#32 29#32 30#32 31#32 rfl rfl rfl rfl i _ _ a (lane g k) v h]
  rw [head_at 6 24#32 25#32 26#32 27#32 rfl rfl rfl rfl i _ _ a (lane g k) v h]
  rw [head_at 5 20#32 21#32 22#32 23#32 rfl rfl rfl rfl i _ _ a (lane g k) v h]
  rw [head_at 4 16#32 17#32 18#32 19#32 rfl rfl rfl rfl i _ _ a (lane g k) v h]
  rw [head_at 3 12#32 13#32 14#32 15#32 rfl rfl rfl rfl i _ _ a (lane g k) v h]
  rw [head_at 2 8#32 9#32 10#32 11#32 rfl rfl rfl rfl i _ _ a (lane g k) v h]
  rw [head_at 1 4#32 5#32 6#32 7#32 rfl rfl rfl rfl i _ _ a (lane g k) v h]
  rw [head_at 0 0#32 1#32 2#32 3#32 rfl rfl rfl rfl i _ _ a (lane g k) v h]
  rw [hl]
  have h8 : ∀ g : Fin 8, g = 0 ∨ g = 1 ∨ g = 2 ∨ g = 3 ∨ g = 4 ∨ g = 5 ∨ g = 6 ∨ g = 7 := by decide
  rcases h8 g with rfl | rfl | rfl | rfl | rfl | rfl | rfl | rfl
  · rw [if_neg (by decide), if_neg (by decide), if_neg (by decide), if_neg (by decide), if_neg (by decide), if_neg (by decide), if_neg (by decide), if_pos (by decide), scores_at]
    refine Finset.sum_congr rfl fun d _ => congrArg₂ (· * ·) ?_ ?_
    · pointwise
    · pointwise
  · rw [if_neg (by decide), if_neg (by decide), if_neg (by decide), if_neg (by decide), if_neg (by decide), if_neg (by decide), if_pos (by decide), scores_at]
    refine Finset.sum_congr rfl fun d _ => congrArg₂ (· * ·) ?_ ?_
    · pointwise
    · pointwise
  · rw [if_neg (by decide), if_neg (by decide), if_neg (by decide), if_neg (by decide), if_neg (by decide), if_pos (by decide), scores_at]
    refine Finset.sum_congr rfl fun d _ => congrArg₂ (· * ·) ?_ ?_
    · pointwise
    · pointwise
  · rw [if_neg (by decide), if_neg (by decide), if_neg (by decide), if_neg (by decide), if_pos (by decide), scores_at]
    refine Finset.sum_congr rfl fun d _ => congrArg₂ (· * ·) ?_ ?_
    · pointwise
    · pointwise
  · rw [if_neg (by decide), if_neg (by decide), if_neg (by decide), if_pos (by decide), scores_at]
    refine Finset.sum_congr rfl fun d _ => congrArg₂ (· * ·) ?_ ?_
    · pointwise
    · pointwise
  · rw [if_neg (by decide), if_neg (by decide), if_pos (by decide), scores_at]
    refine Finset.sum_congr rfl fun d _ => congrArg₂ (· * ·) ?_ ?_
    · pointwise
    · pointwise
  · rw [if_neg (by decide), if_pos (by decide), scores_at]
    refine Finset.sum_congr rfl fun d _ => congrArg₂ (· * ·) ?_ ?_
    · pointwise
    · pointwise
  · rw [if_pos (by decide), scores_at]
    refine Finset.sum_congr rfl fun d _ => congrArg₂ (· * ·) ?_ ?_
    · pointwise
    · pointwise

/-- A slot's score in the second half of its head's query. -/
theorem half1_at (g : Fin 8) (h : i (ix2 a (lane g k)) = BitVec.ofNat 32 v.val) :
    half1 (whereOf i) (withinOf i) q ks (ix2 a (lane g k))
      = ∑ d : Fin 128, q (ix2 a ⟨128 * (2 * g.val + 1) + d.val, by omega⟩) * ks (ix3 ⟨2 * g.val + 1, by omega⟩ d ⟨v.val, by omega⟩) := by
  have hl := lane_div g k
  unfold half1
  rw [head_at 7 28#32 29#32 30#32 31#32 rfl rfl rfl rfl i _ _ a (lane g k) v h]
  rw [head_at 6 24#32 25#32 26#32 27#32 rfl rfl rfl rfl i _ _ a (lane g k) v h]
  rw [head_at 5 20#32 21#32 22#32 23#32 rfl rfl rfl rfl i _ _ a (lane g k) v h]
  rw [head_at 4 16#32 17#32 18#32 19#32 rfl rfl rfl rfl i _ _ a (lane g k) v h]
  rw [head_at 3 12#32 13#32 14#32 15#32 rfl rfl rfl rfl i _ _ a (lane g k) v h]
  rw [head_at 2 8#32 9#32 10#32 11#32 rfl rfl rfl rfl i _ _ a (lane g k) v h]
  rw [head_at 1 4#32 5#32 6#32 7#32 rfl rfl rfl rfl i _ _ a (lane g k) v h]
  rw [head_at 0 0#32 1#32 2#32 3#32 rfl rfl rfl rfl i _ _ a (lane g k) v h]
  rw [hl]
  have h8 : ∀ g : Fin 8, g = 0 ∨ g = 1 ∨ g = 2 ∨ g = 3 ∨ g = 4 ∨ g = 5 ∨ g = 6 ∨ g = 7 := by decide
  rcases h8 g with rfl | rfl | rfl | rfl | rfl | rfl | rfl | rfl
  · rw [if_neg (by decide), if_neg (by decide), if_neg (by decide), if_neg (by decide), if_neg (by decide), if_neg (by decide), if_neg (by decide), if_pos (by decide), scores_at]
    refine Finset.sum_congr rfl fun d _ => congrArg₂ (· * ·) ?_ ?_
    · pointwise
    · pointwise
  · rw [if_neg (by decide), if_neg (by decide), if_neg (by decide), if_neg (by decide), if_neg (by decide), if_neg (by decide), if_pos (by decide), scores_at]
    refine Finset.sum_congr rfl fun d _ => congrArg₂ (· * ·) ?_ ?_
    · pointwise
    · pointwise
  · rw [if_neg (by decide), if_neg (by decide), if_neg (by decide), if_neg (by decide), if_neg (by decide), if_pos (by decide), scores_at]
    refine Finset.sum_congr rfl fun d _ => congrArg₂ (· * ·) ?_ ?_
    · pointwise
    · pointwise
  · rw [if_neg (by decide), if_neg (by decide), if_neg (by decide), if_neg (by decide), if_pos (by decide), scores_at]
    refine Finset.sum_congr rfl fun d _ => congrArg₂ (· * ·) ?_ ?_
    · pointwise
    · pointwise
  · rw [if_neg (by decide), if_neg (by decide), if_neg (by decide), if_pos (by decide), scores_at]
    refine Finset.sum_congr rfl fun d _ => congrArg₂ (· * ·) ?_ ?_
    · pointwise
    · pointwise
  · rw [if_neg (by decide), if_neg (by decide), if_pos (by decide), scores_at]
    refine Finset.sum_congr rfl fun d _ => congrArg₂ (· * ·) ?_ ?_
    · pointwise
    · pointwise
  · rw [if_neg (by decide), if_pos (by decide), scores_at]
    refine Finset.sum_congr rfl fun d _ => congrArg₂ (· * ·) ?_ ?_
    · pointwise
    · pointwise
  · rw [if_pos (by decide), scores_at]
    refine Finset.sum_congr rfl fun d _ => congrArg₂ (· * ·) ?_ ?_
    · pointwise
    · pointwise

end Half

/-- The slot `d` away, by the bit of `d`. -/
def mate (d : Fin 16) (k : Fin 16) : Fin 16 := ⟨k.val ^^^ d.val, Nat.xor_lt_two_pow (n := 4) k.isLt d.isLt⟩

section Exchange
variable (u : FVec Ideal S256x128 .f32) (a : Fin 256) (g : Fin 8) (k : Fin 16)

/-- The exchange at distance 1 reads the slot 1 away in the same head. -/
theorem partner1_at : partner 1#32 127#32 u (ix2 a (lane g k)) = u (ix2 a (lane g (mate 1 k))) := by
  pointwise [partner, lanes]
  rw [select_eq]
  have key : ∀ (g : Fin 8) (k : Fin 16), (IntOp.andi (BitVec.ofNat 32 (lane g k).val) 1#32 = 0#32 → ((lane g k).val + 128 - 127) % 128 = (lane g (mate 1 k)).val)
      ∧ (¬ IntOp.andi (BitVec.ofNat 32 (lane g k).val) 1#32 = 0#32 → ((lane g k).val + 128 - 1) % 128 = (lane g (mate 1 k)).val) := by decide +kernel
  split
  · exact congrArg (fun z => u (ix2 a z)) (Fin.ext ((key g k).1 ‹_›))
  · exact congrArg (fun z => u (ix2 a z)) (Fin.ext ((key g k).2 ‹_›))

/-- The exchange at distance 2 reads the slot 2 away in the same head. -/
theorem partner2_at : partner 2#32 126#32 u (ix2 a (lane g k)) = u (ix2 a (lane g (mate 2 k))) := by
  pointwise [partner, lanes]
  rw [select_eq]
  have key : ∀ (g : Fin 8) (k : Fin 16), (IntOp.andi (BitVec.ofNat 32 (lane g k).val) 2#32 = 0#32 → ((lane g k).val + 128 - 126) % 128 = (lane g (mate 2 k)).val)
      ∧ (¬ IntOp.andi (BitVec.ofNat 32 (lane g k).val) 2#32 = 0#32 → ((lane g k).val + 128 - 2) % 128 = (lane g (mate 2 k)).val) := by decide +kernel
  split
  · exact congrArg (fun z => u (ix2 a z)) (Fin.ext ((key g k).1 ‹_›))
  · exact congrArg (fun z => u (ix2 a z)) (Fin.ext ((key g k).2 ‹_›))

/-- The exchange at distance 4 reads the slot 4 away in the same head. -/
theorem partner4_at : partner 4#32 124#32 u (ix2 a (lane g k)) = u (ix2 a (lane g (mate 4 k))) := by
  pointwise [partner, lanes]
  rw [select_eq]
  have key : ∀ (g : Fin 8) (k : Fin 16), (IntOp.andi (BitVec.ofNat 32 (lane g k).val) 4#32 = 0#32 → ((lane g k).val + 128 - 124) % 128 = (lane g (mate 4 k)).val)
      ∧ (¬ IntOp.andi (BitVec.ofNat 32 (lane g k).val) 4#32 = 0#32 → ((lane g k).val + 128 - 4) % 128 = (lane g (mate 4 k)).val) := by decide +kernel
  split
  · exact congrArg (fun z => u (ix2 a z)) (Fin.ext ((key g k).1 ‹_›))
  · exact congrArg (fun z => u (ix2 a z)) (Fin.ext ((key g k).2 ‹_›))

/-- The exchange at distance 8 reads the slot 8 away in the same head. -/
theorem partner8_at : partner 8#32 120#32 u (ix2 a (lane g k)) = u (ix2 a (lane g (mate 8 k))) := by
  pointwise [partner, lanes]
  rw [select_eq]
  have key : ∀ (g : Fin 8) (k : Fin 16), (IntOp.andi (BitVec.ofNat 32 (lane g k).val) 8#32 = 0#32 → ((lane g k).val + 128 - 120) % 128 = (lane g (mate 8 k)).val)
      ∧ (¬ IntOp.andi (BitVec.ofNat 32 (lane g k).val) 8#32 = 0#32 → ((lane g k).val + 128 - 8) % 128 = (lane g (mate 8 k)).val) := by decide +kernel
  split
  · exact congrArg (fun z => u (ix2 a z)) (Fin.ext ((key g k).1 ‹_›))
  · exact congrArg (fun z => u (ix2 a z)) (Fin.ext ((key g k).2 ‹_›))

end Exchange

/-- Four exchanges of an operation over sixteen values. -/
def tree {α : Type} (op : α → α → α) (f : Fin 16 → α) : Fin 16 → α :=
  let x := fun k => op (f k) (f (mate 1 k))
  let y := fun k => op (x k) (x (mate 2 k))
  let z := fun k => op (y k) (y (mate 4 k))
  fun k => op (z k) (z (mate 8 k))

/-- The four exchanges of a commutative and associative operation give every slot the same. -/
theorem tree_eq {α : Type} (op : α → α → α) [Std.Commutative op] [Std.Associative op] (f : Fin 16 → α) (k : Fin 16) :
    tree op f k = op (f 0) (op (f 1) (op (f 2) (op (f 3) (op (f 4) (op (f 5) (op (f 6) (op (f 7) (op (f 8) (op (f 9) (op (f 10) (op (f 11) (op (f 12) (op (f 13) (op (f 14) (f 15))))))))))))))) := by
  have h16 : ∀ k : Fin 16, k = 0 ∨ k = 1 ∨ k = 2 ∨ k = 3 ∨ k = 4 ∨ k = 5 ∨ k = 6 ∨ k = 7 ∨ k = 8 ∨ k = 9 ∨ k = 10 ∨ k = 11 ∨ k = 12 ∨ k = 13 ∨ k = 14 ∨ k = 15 := by decide
  rcases h16 k with rfl | rfl | rfl | rfl | rfl | rfl | rfl | rfl | rfl | rfl | rfl | rfl | rfl | rfl | rfl | rfl
  · show op (op (op (op (f 0) (f 1)) (op (f 2) (f 3))) (op (op (f 4) (f 5)) (op (f 6) (f 7)))) (op (op (op (f 8) (f 9)) (op (f 10) (f 11))) (op (op (f 12) (f 13)) (op (f 14) (f 15)))) = _
    ac_rfl
  · show op (op (op (op (f 1) (f 0)) (op (f 3) (f 2))) (op (op (f 5) (f 4)) (op (f 7) (f 6)))) (op (op (op (f 9) (f 8)) (op (f 11) (f 10))) (op (op (f 13) (f 12)) (op (f 15) (f 14)))) = _
    ac_rfl
  · show op (op (op (op (f 2) (f 3)) (op (f 0) (f 1))) (op (op (f 6) (f 7)) (op (f 4) (f 5)))) (op (op (op (f 10) (f 11)) (op (f 8) (f 9))) (op (op (f 14) (f 15)) (op (f 12) (f 13)))) = _
    ac_rfl
  · show op (op (op (op (f 3) (f 2)) (op (f 1) (f 0))) (op (op (f 7) (f 6)) (op (f 5) (f 4)))) (op (op (op (f 11) (f 10)) (op (f 9) (f 8))) (op (op (f 15) (f 14)) (op (f 13) (f 12)))) = _
    ac_rfl
  · show op (op (op (op (f 4) (f 5)) (op (f 6) (f 7))) (op (op (f 0) (f 1)) (op (f 2) (f 3)))) (op (op (op (f 12) (f 13)) (op (f 14) (f 15))) (op (op (f 8) (f 9)) (op (f 10) (f 11)))) = _
    ac_rfl
  · show op (op (op (op (f 5) (f 4)) (op (f 7) (f 6))) (op (op (f 1) (f 0)) (op (f 3) (f 2)))) (op (op (op (f 13) (f 12)) (op (f 15) (f 14))) (op (op (f 9) (f 8)) (op (f 11) (f 10)))) = _
    ac_rfl
  · show op (op (op (op (f 6) (f 7)) (op (f 4) (f 5))) (op (op (f 2) (f 3)) (op (f 0) (f 1)))) (op (op (op (f 14) (f 15)) (op (f 12) (f 13))) (op (op (f 10) (f 11)) (op (f 8) (f 9)))) = _
    ac_rfl
  · show op (op (op (op (f 7) (f 6)) (op (f 5) (f 4))) (op (op (f 3) (f 2)) (op (f 1) (f 0)))) (op (op (op (f 15) (f 14)) (op (f 13) (f 12))) (op (op (f 11) (f 10)) (op (f 9) (f 8)))) = _
    ac_rfl
  · show op (op (op (op (f 8) (f 9)) (op (f 10) (f 11))) (op (op (f 12) (f 13)) (op (f 14) (f 15)))) (op (op (op (f 0) (f 1)) (op (f 2) (f 3))) (op (op (f 4) (f 5)) (op (f 6) (f 7)))) = _
    ac_rfl
  · show op (op (op (op (f 9) (f 8)) (op (f 11) (f 10))) (op (op (f 13) (f 12)) (op (f 15) (f 14)))) (op (op (op (f 1) (f 0)) (op (f 3) (f 2))) (op (op (f 5) (f 4)) (op (f 7) (f 6)))) = _
    ac_rfl
  · show op (op (op (op (f 10) (f 11)) (op (f 8) (f 9))) (op (op (f 14) (f 15)) (op (f 12) (f 13)))) (op (op (op (f 2) (f 3)) (op (f 0) (f 1))) (op (op (f 6) (f 7)) (op (f 4) (f 5)))) = _
    ac_rfl
  · show op (op (op (op (f 11) (f 10)) (op (f 9) (f 8))) (op (op (f 15) (f 14)) (op (f 13) (f 12)))) (op (op (op (f 3) (f 2)) (op (f 1) (f 0))) (op (op (f 7) (f 6)) (op (f 5) (f 4)))) = _
    ac_rfl
  · show op (op (op (op (f 12) (f 13)) (op (f 14) (f 15))) (op (op (f 8) (f 9)) (op (f 10) (f 11)))) (op (op (op (f 4) (f 5)) (op (f 6) (f 7))) (op (op (f 0) (f 1)) (op (f 2) (f 3)))) = _
    ac_rfl
  · show op (op (op (op (f 13) (f 12)) (op (f 15) (f 14))) (op (op (f 9) (f 8)) (op (f 11) (f 10)))) (op (op (op (f 5) (f 4)) (op (f 7) (f 6))) (op (op (f 1) (f 0)) (op (f 3) (f 2)))) = _
    ac_rfl
  · show op (op (op (op (f 14) (f 15)) (op (f 12) (f 13))) (op (op (f 10) (f 11)) (op (f 8) (f 9)))) (op (op (op (f 6) (f 7)) (op (f 4) (f 5))) (op (op (f 2) (f 3)) (op (f 0) (f 1)))) = _
    ac_rfl
  · show op (op (op (op (f 15) (f 14)) (op (f 13) (f 12))) (op (op (f 11) (f 10)) (op (f 9) (f 8)))) (op (op (op (f 7) (f 6)) (op (f 5) (f 4))) (op (op (f 3) (f 2)) (op (f 1) (f 0)))) = _
    ac_rfl

/-- The largest of a head's sixteen. -/
theorem groupMax_at (r : FVec Ideal S256x128 .f32) (a : Fin 256) (g : Fin 8) (k : Fin 16) :
    groupMax r (ix2 a (lane g k)) = Finset.univ.fold max ⊥ fun j : Fin 16 => r (ix2 a (lane g j)) := by
  have e : ∀ (x y : FVec Ideal S256x128 .f32) j, maximumf x y j = max (x j) (y j) := fun _ _ _ => rfl
  unfold groupMax
  simp only [e, partner1_at, partner2_at, partner4_at, partner8_at]
  refine (tree_eq max (fun j => r (ix2 a (lane g j))) k).trans ?_
  have b : r (ix2 a (lane g 15)) = max (r (ix2 a (lane g 15))) ⊥ := (sup_bot_eq _).symm
  beta_reduce
  rw [b]
  rfl

/-- The sum of a head's sixteen. -/
theorem groupSum_at (r : FVec Ideal S256x128 .f32) (a : Fin 256) (g : Fin 8) (k : Fin 16) :
    groupSum r (ix2 a (lane g k)) = ∑ j : Fin 16, r (ix2 a (lane g j)) := by
  have e : ∀ (x y : FVec Ideal S256x128 .f32) j, addf x y j = (x j + y j : EReal) := fun _ _ _ => rfl
  unfold groupSum
  simp only [e, partner1_at, partner2_at, partner4_at, partner8_at]
  refine (tree_eq (fun x y : EReal => x + y) (fun j => r (ix2 a (lane g j))) k).trans ?_
  have b : r (ix2 a (lane g 15)) = (r (ix2 a (lane g 15)) + 0 : EReal) := (add_zero _).symm
  beta_reduce
  rw [b]
  rfl

/-- The softmax of sixteen scores. -/
def softmax (f : Fin 16 → EReal) (k : Fin 16) : EReal :=
  Ideal.div (Ideal.exp (f k - Finset.univ.fold max ⊥ f)) (∑ j : Fin 16, Ideal.exp (f j - Finset.univ.fold max ⊥ f))

/-- The gates are the softmax of each head's sixteen scores. -/
theorem gates_at (r : FVec Ideal S256x128 .f32) (a : Fin 256) (g : Fin 8) (k : Fin 16) :
    gates r (ix2 a (lane g k)) = softmax (fun j => r (ix2 a (lane g j))) k := by
  have e : ∀ j, exp (subf r (groupMax r)) (ix2 a (lane g j)) = Ideal.exp (r (ix2 a (lane g j)) - Finset.univ.fold max ⊥ fun j : Fin 16 => r (ix2 a (lane g j))) := fun j => by
    rw [← groupMax_at r a g j]
    rfl
  unfold gates softmax
  show Ideal.div (exp (subf r (groupMax r)) (ix2 a (lane g k))) (groupSum (exp (subf r (groupMax r))) (ix2 a (lane g k))) = _
  rw [groupSum_at, e k]
  simp only [e]

end Cert.KernelIdeal.Block
-- ==== Proof.Ref.lean ====
/- The reference's two float results as vector expressions of its arguments, and those read at an
   index: each token's queries, its scores against every key, the sixteen scores its slots name, and
   the softmax over each head's sixteen slots. -/
module

public import proofs.«01_k».proof.Proof.Gen.ReferenceIdeal
public import proofs.«01_k».proof.Proof.Gen.ReferenceIdeal.Run
public import Idealize.ShloMosaic.Lib.Pointwise
public import Idealize.ShloMosaic.PureOps.Ideal

@[expose] public section

set_option maxRecDepth 65536

noncomputable section

namespace Cert.ReferenceIdeal.Ref

open Cert.ReferenceIdeal Cert.ReferenceIdeal.Gen Cert.ReferenceIdeal.Facts
open Idealize.ShloMosaic Idealize.ShloMosaic.TcCoe Idealize.ShloMosaic.Tactic Idealize.SL.Sem

variable {F : FTy → Type} [FloatOps F]

/-- The indices with a negative one counted from the end, under a new last axis. -/
def wrap (i : IVec S4x1024x8x16 32) : IVec S4x1024x8x16x1 32 :=
  shapeCast S4x1024x8x16x1 (select (cmpi .slt i (broadcastInDim S4x1024x8x16 ![] bcast_S_S4x1024x8x16 (constantI S_ 32 0#32))) (addi i (broadcastInDim S4x1024x8x16 ![] bcast_S_S4x1024x8x16 (constantI S_ 32 448#32))) i) shapeCasts_S4x1024x8x16_S4x1024x8x16x1

/-- Which indices are within the 448 keys. -/
def inside (i : IVec S4x1024x8x16 32) : IVec S4x1024x8x16 1 :=
  Host.reduce IntOp.andi (andi (cmpi .sge (wrap i) (broadcastInDim S4x1024x8x16x1 ![] bcast_S_S4x1024x8x16x1 (constantI S_ 32 0#32))) (cmpi .sle (wrap i) (broadcastInDim S4x1024x8x16x1 ![0, 1, 2, 3, 4] bcast_S1x1x1x1x1_S4x1024x8x16x1_0_1_2_3_4 (broadcastInDim S1x1x1x1x1 ![4] bcast_S1_S1x1x1x1x1_4 (constantI S1 32 447#32))))) (constantI S_ 1 1#1) reducesTo_S4x1024x8x16x1_S4x1024x8x16_d4 h_S_

/-- The scores at the indices. -/
def take (s : FVec F S4x1024x8x448 .f32) (i : IVec S4x1024x8x16 32) : FVec F S4x1024x8x16 .f32 :=
  select (inside i) (Host.gather gather_S4x1024x8x448_S4x1024x8x16x1_S4x1024x8x16_n_3_012_012_3_4_1111 s (wrap i)) (broadcastInDim S4x1024x8x16 ![] bcast_S_S4x1024x8x16 (constant S_ .f32 0x7FC00000#32))

/-- The queries. -/
def query (x : FVec F S4x1024x1536 .bf16) (w : FVec F S1536x8x192 .bf16) : FVec F S4x1024x8x192 .bf16 :=
  truncf .bf16 (Host.dotGeneral dot_S4x1024x1536_S1536x8x192_S4x1024x8x192_2_0_01_12_n_n none x w) bitsLt_bf16_f32

/-- The first halves' scores. -/
def score0 (q : FVec F S4x1024x8x192 .bf16) (k : FVec F S8x2x448x96 .bf16) : FVec F S4x1024x8x448 .f32 :=
  transpose S4x1024x8x448 [2, 3, 0, 1] (Host.dotGeneral dot_S8x448x96_S4x1024x8x96_S8x448x4x1024_2_3_1_01_0_2 none (shapeCast S8x448x96 (extractStridedSlice S8x1x448x96 ![0, 0, 0, 0] k slices_S8x2x448x96_S8x1x448x96_0_0_0_0) shapeCasts_S8x1x448x96_S8x448x96) (extractStridedSlice S4x1024x8x96 ![0, 0, 0, 0] q slices_S4x1024x8x192_S4x1024x8x96_0_0_0_0)) transposes_S8x448x4x1024_S4x1024x8x448_2_3_0_1

/-- The second halves' scores. -/
def score1 (q : FVec F S4x1024x8x192 .bf16) (k : FVec F S8x2x448x96 .bf16) : FVec F S4x1024x8x448 .f32 :=
  transpose S4x1024x8x448 [2, 3, 0, 1] (Host.dotGeneral dot_S8x448x96_S4x1024x8x96_S8x448x4x1024_2_3_1_01_0_2 none (shapeCast S8x448x96 (extractStridedSlice S8x1x448x96 ![0, 1, 0, 0] k slices_S8x2x448x96_S8x1x448x96_0_1_0_0) shapeCasts_S8x1x448x96_S8x448x96) (extractStridedSlice S4x1024x8x96 ![0, 0, 0, 96] q slices_S4x1024x8x192_S4x1024x8x96_0_0_0_96)) transposes_S8x448x4x1024_S4x1024x8x448_2_3_0_1

/-- Each slot's score: the two halves' picked scores added. -/
def slots (x : FVec F S4x1024x1536 .bf16) (w : FVec F S1536x8x192 .bf16) (k : FVec F S8x2x448x96 .bf16) (i1 i2 : IVec S4x1024x8x16 32) : FVec F S4x1024x8x16 .f32 :=
  addf (take (score0 (query x w) k) i1) (take (score1 (query x w) k) i2)

/-- The exponentials of the scores less their head's largest. -/
def expo (r : FVec F S4x1024x8x16 .f32) : FVec F S4x1024x8x16 .f32 :=
  Host.exp (subf r (broadcastInDim S4x1024x8x16 ![0, 1, 2, 3] bcast_S4x1024x8x1_S4x1024x8x16_0_1_2_3 (broadcastInDim S4x1024x8x1 ![0, 1, 2] bcast_S4x1024x8_S4x1024x8x1_0_1_2 (maximumf (broadcastInDim S4x1024x8 ![] bcast_S_S4x1024x8 (constant S_ .f32 0xFF800000#32)) (Host.reduce FloatOps.maximumf r (constant S_ .f32 0xFF800000#32) reducesTo_S4x1024x8x16_S4x1024x8_d3 h_S_)))))

/-- The softmax over each head's sixteen slots. -/
def soft (r : FVec F S4x1024x8x16 .f32) : FVec F S4x1024x8x16 .f32 :=
  Host.divf (expo r) (broadcastInDim S4x1024x8x16 ![0, 1, 2, 3] bcast_S4x1024x8x1_S4x1024x8x16_0_1_2_3 (broadcastInDim S4x1024x8x1 ![0, 1, 2] bcast_S4x1024x8_S4x1024x8x1_0_1_2 (Host.reduceAdd (expo r) (constant S_ .f32 0x00000000#32) reducesTo_S4x1024x8x16_S4x1024x8_d3 h_S_)))

/-- Each slot's expert: the first index times 448 plus the second. -/
def expert (i1 i2 : IVec S4x1024x8x16 32) : IVec S4096x128 32 :=
  shapeCast S4096x128 (addi (muli i1 (broadcastInDim S4x1024x8x16 ![] bcast_S_S4x1024x8x16 (constantI S_ 32 448#32))) i2) shapeCasts_S4x1024x8x16_S4096x128

/-- The gates, a row per token. -/
def gate (x : FVec F S4x1024x1536 .bf16) (w : FVec F S1536x8x192 .bf16) (k : FVec F S8x2x448x96 .bf16) (i1 i2 : IVec S4x1024x8x16 32) : FVec F S4096x128 .f32 :=
  shapeCast S4096x128 (soft (slots x w k i1 i2)) shapeCasts_S4x1024x8x16_S4096x128

variable (m : (ℓ : Loc nD τ sig) → Buf (Elt F) ℓ) (c : Dev nD)

/-- The reference's second result is the gates, a row per token. -/
theorem out1_eq : Value.res_main_v30 m c
    = gate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- The reference's third result is the gates, head by head. -/
theorem out2_eq : Value.res_main_v25 m c
    = soft (slots (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := rfl

end Cert.ReferenceIdeal.Ref
-- ==== Proof.RefAt.lean ====
/- The reference's parts read at an index, over the extended reals and where every index is a key's
   number. -/
module

public import proofs.«01_k».proof.Proof.Ref

@[expose] public section

set_option maxRecDepth 65536

noncomputable section

namespace Cert.ReferenceIdeal.Ref

open Cert.ReferenceIdeal Cert.ReferenceIdeal.Gen Cert.ReferenceIdeal.Facts
open Idealize.ShloMosaic Idealize.ShloMosaic.TcCoe Idealize.ShloMosaic.Tactic Idealize.SL.Sem

/-- A query is the product of a token's row with a column of the weights. -/
theorem query_at (x : FVec Ideal S4x1024x1536 .bf16) (w : FVec Ideal S1536x8x192 .bf16) (b : Fin 4) (t : Fin 1024) (h : Fin 8) (d : Fin 192) :
    query x w (ix4 b t h d) = ∑ e : Fin 1536, x (ix3 b t e) * w (ix3 e h d) := by
  pointwise [query]

/-- A first half's score is the product of a key with the first 96 entries of the query. -/
theorem score0_at (q : FVec Ideal S4x1024x8x192 .bf16) (k : FVec Ideal S8x2x448x96 .bf16) (b : Fin 4) (t : Fin 1024) (h : Fin 8) (n : Fin 448) :
    score0 q k (ix4 b t h n) = ∑ d : Fin 96, k (ix4 h 0 n d) * q (ix4 b t h ⟨d.val, by omega⟩) := by
  pointwise [score0]

/-- A second half's score is the product of a key with the last 96 entries of the query. -/
theorem score1_at (q : FVec Ideal S4x1024x8x192 .bf16) (k : FVec Ideal S8x2x448x96 .bf16) (b : Fin 4) (t : Fin 1024) (h : Fin 8) (n : Fin 448) :
    score1 q k (ix4 b t h n) = ∑ d : Fin 96, k (ix4 h 1 n d) * q (ix4 b t h ⟨96 + d.val, by omega⟩) := by
  pointwise [score1]

/-- A key's number stays as it is. -/
theorem wrap_at (i : IVec S4x1024x8x16 32) (b : Fin 4) (t : Fin 1024) (h : Fin 8) (n : Fin 16) (v : Fin 448)
    (hv : i (ix4 b t h n) = BitVec.ofNat 32 v.val) : wrap i (ix5 b t h n 0) = BitVec.ofNat 32 v.val := by
  pointwise [wrap]
  rw [hv]
  revert v
  have := (by decide +kernel : ∀ v : Fin 448, Scalar.select (IntOp.cmpi .slt (BitVec.ofNat 32 v.val) 0#32) (IntOp.addi (BitVec.ofNat 32 v.val) 448#32) (BitVec.ofNat 32 v.val) = BitVec.ofNat 32 v.val)
  exact fun v _ => this v

/-- A key's number is within the keys. -/
theorem inside_at (i : IVec S4x1024x8x16 32) (b : Fin 4) (t : Fin 1024) (h : Fin 8) (n : Fin 16) (v : Fin 448)
    (hv : i (ix4 b t h n) = BitVec.ofNat 32 v.val) : inside i (ix4 b t h n) = 1#1 := by
  have hw := wrap_at i b t h n v hv
  pointwise [inside]
  simp only [Finset.univ_unique, Finset.fold_singleton]
  have key : ∀ v : Fin 448, IntOp.andi (IntOp.andi (IntOp.cmpi .sge (BitVec.ofNat 32 v.val) 0#32) (IntOp.cmpi .sle (BitVec.ofNat 32 v.val) 447#32)) 1#1 = 1#1 := by decide +kernel
  refine Eq.trans ?_ (key v)
  rw [← hw]
  rfl

/-- The gather along the keys reads the key its index names. -/
theorem gather_at {α : Type} (s : S4x1024x8x448.Idx → α) (i : IVec S4x1024x8x16x1 32) (b : Fin 4) (t : Fin 1024) (h : Fin 8) (n : Fin 16) (v : Fin 448)
    (hv : i (ix5 b t h n 0) = BitVec.ofNat 32 v.val) :
    Host.gather gather_S4x1024x8x448_S4x1024x8x16x1_S4x1024x8x16_n_3_012_012_3_4_1111 s i (ix4 b t h n) = s (ix4 b t h v) := by
  unfold Host.gather
  refine congrArg s (funext fun a => Fin.ext ?_)
  set d := gather_S4x1024x8x448_S4x1024x8x16x1_S4x1024x8x16_n_3_012_012_3_4_1111 with hd
  show d.start (ix4 b t h n) i a + d.batchCoord (ix4 b t h n) a + d.offCoord (ix4 b t h n) a = _
  have hk : ∀ a : Fin 4, a ∉ d.sKept := by decide
  rw [d.offCoord_eq_zero _ _ (hk a), Nat.add_zero]
  have h4 : ∀ a : Fin 4, a = 0 ∨ a = 1 ∨ a = 2 ∨ a = 3 := by decide
  rcases h4 a with rfl | rfl | rfl | rfl
  · rw [d.start_batching _ _ _ (by decide), Nat.zero_add]; rfl
  · rw [d.start_batching _ _ _ (by decide), Nat.zero_add]; rfl
  · rw [d.start_batching _ _ _ (by decide), Nat.zero_add]; rfl
  · rw [d.batchCoord_eq_zero _ _ (by decide), Nat.add_zero]
    unfold GatherDims.start
    rw [dif_pos (show (3 : Fin 4) ∈ d.startIndexMap by decide)]
    have hsi : d.siIdx (ix4 b t h n) ⟨d.startIndexMap.idxOf 3, List.idxOf_lt_length_iff.2 (by decide)⟩ = ix5 b t h n 0 := by
      funext b'; refine Fin.ext ?_
      match b' with
      | ⟨0, _⟩ => rfl
      | ⟨1, _⟩ => rfl
      | ⟨2, _⟩ => rfl
      | ⟨3, _⟩ => rfl
      | ⟨4, _⟩ => rfl
    have key : ∀ v : Fin 448, min (BitVec.ofNat 32 v.val).toInt.toNat (448 - 1) = v.val := by decide +kernel
    refine Eq.trans ?_ (key v)
    rw [← hv, ← hsi]
    rfl

/-- A slot's score is the score of the key its index names. -/
theorem take_at (s : FVec Ideal S4x1024x8x448 .f32) (i : IVec S4x1024x8x16 32) (b : Fin 4) (t : Fin 1024) (h : Fin 8) (n : Fin 16) (v : Fin 448)
    (hv : i (ix4 b t h n) = BitVec.ofNat 32 v.val) : take s i (ix4 b t h n) = s (ix4 b t h v) := by
  unfold take
  rw [show ∀ (c : IVec S4x1024x8x16 1) (x y : FVec Ideal S4x1024x8x16 .f32) j, select c x y j = Scalar.select (c j) (x j) (y j) from fun _ _ _ _ => rfl,
    inside_at i b t h n v hv, gather_at s (wrap i) b t h n v (wrap_at i b t h n v hv)]
  rfl

/-- The exponential of a slot's score less its head's largest. -/
theorem expo_at (r : FVec Ideal S4x1024x8x16 .f32) (b : Fin 4) (t : Fin 1024) (h : Fin 8) (n : Fin 16) :
    expo r (ix4 b t h n) = Ideal.exp (r (ix4 b t h n) - Finset.univ.fold max ⊥ fun k : Fin 16 => r (ix4 b t h k)) := by
  pointwise [expo]
  have hb : Ideal.ofBits FTy.f32 4286578688#32 = ⊥ := by simp [Ideal.ofBits, Ideal.ieee]
  rw [hb, bot_sup_eq]

/-- A gate is its slot's exponential over the sum of its head's. -/
theorem soft_at (r : FVec Ideal S4x1024x8x16 .f32) (b : Fin 4) (t : Fin 1024) (h : Fin 8) (n : Fin 16) :
    soft r (ix4 b t h n) = Ideal.div (expo r (ix4 b t h n)) (∑ k : Fin 16, expo r (ix4 b t h k)) := by
  pointwise [soft]

end Cert.ReferenceIdeal.Ref
-- ==== Proof.Equation.lean ====
/- The equation: over the extended reals and where every index is a key's number, a grid point's
   block of gates is the reference's gates of the point's tokens. -/
module

public import proofs.«01_k».proof.Proof.Arrays
public import proofs.«01_k».proof.Proof.Softmax
public import proofs.«01_k».proof.Proof.RefAt

@[expose] public section

set_option maxRecDepth 65536

noncomputable section

namespace Cert.KernelIdeal.Block

open Cert.KernelIdeal Cert.KernelIdeal.Gen Cert.KernelIdeal.Body
open Idealize.ShloMosaic Idealize.ShloMosaic.TcCoe Idealize.ShloMosaic.Tactic Idealize.SL.Sem
open Cert.ReferenceIdeal.Ref (query score0 score1 slots soft expo take query_at score0_at score1_at take_at expo_at soft_at)

variable (m : (ℓ : Loc nD τ sig) → Buf (Elt Ideal) ℓ) (c : Dev nD) (t : Fin cfg0.N)

/-! The five arguments, under the names of what they hold. -/

/-- The tokens' rows. -/
abbrev X : FVec Ideal Cert.ReferenceIdeal.S4x1024x1536 .bf16 := m ((c.tc : Thread nD τ).loc main_arg0)
/-- The query weights. -/
abbrev W : FVec Ideal Cert.ReferenceIdeal.S1536x8x192 .bf16 := m ((c.tc : Thread nD τ).loc main_arg1)
/-- The keys. -/
abbrev K : FVec Ideal Cert.ReferenceIdeal.S8x2x448x96 .bf16 := m ((c.tc : Thread nD τ).loc main_arg2)
/-- The first indices. -/
abbrev I1 : IVec Cert.ReferenceIdeal.S4x1024x8x16 32 := m ((c.tc : Thread nD τ).loc main_arg3)
/-- The second indices. -/
abbrev I2 : IVec Cert.ReferenceIdeal.S4x1024x8x16 32 := m ((c.tc : Thread nD τ).loc main_arg4)

/-- Every index is the number of a key. -/
def Keys : Prop := ∀ i, (∃ v : Fin 448, I1 m c i = BitVec.ofNat 32 v.val) ∧ (∃ v : Fin 448, I2 m c i = BitVec.ofNat 32 v.val)

/-- The block's padded queries: the token's query where there is one, zero on the padding. -/
theorem query_block (p : Fin 2) (g : Fin 8) (a : Fin 256) (d : Fin 96) :
    k0_pay4 (F := Ideal) (iblk m c 0 t) (iblk m c 1 t) (ix2 a (⟨128 * (2 * g.val + p.val) + d.val, by omega⟩ : Fin 2048))
      = query (X m c) (W m c) (ix4 (batch t) (token t a) g (⟨96 * p.val + d.val, by omega⟩ : Fin 192)) := by
  rw [pay4_at, query_at]
  refine Finset.sum_congr rfl fun e _ => congrArg₂ (· * ·) (iblk0_at m c t a e) ?_
  rw [iblk1_at, weights_at, dif_pos (by show (128 * (2 * g.val + p.val) + d.val) % 128 < 96; omega)]
  exact congrArg₂ (fun x y => W m c (ix3 e x y)) (Fin.ext (by show (128 * (2 * g.val + p.val) + d.val) / 256 = g.val; omega))
    (Fin.ext (by show 96 * ((128 * (2 * g.val + p.val) + d.val) / 128 % 2) + (128 * (2 * g.val + p.val) + d.val) % 128 = 96 * p.val + d.val; omega))

/-- A score over the padded 128 lanes is the score over the 96. -/
theorem score_block (p : Fin 2) (g : Fin 8) (a : Fin 256) (v : Fin 448) :
    (∑ d : Fin 128, (k0_pay4 (F := Ideal) (iblk m c 0 t) (iblk m c 1 t) (ix2 a (⟨128 * (2 * g.val + p.val) + d.val, by omega⟩ : Fin 2048)) : EReal)
        * iblk m c 2 t (ix3 (⟨2 * g.val + p.val, by omega⟩ : Fin 16) d (⟨v.val, by omega⟩ : Fin 512)))
      = ∑ d : Fin 96, (K m c (ix4 g p v d) : EReal) * query (X m c) (W m c) (ix4 (batch t) (token t a) g (⟨96 * p.val + d.val, by omega⟩ : Fin 192)) := by
  refine (Fin.sum_univ_add (a := 96) (b := 32) _).trans ?_
  have hz : ∀ d : Fin 32, iblk m c 2 t (ix3 (⟨2 * g.val + p.val, by omega⟩ : Fin 16) (Fin.natAdd 96 d) (⟨v.val, by omega⟩ : Fin 512)) = (0 : EReal) := fun d => by
    rw [iblk2_at, keys_at, dif_neg (fun h => absurd h.1 (by show ¬ 96 + d.val < 96; omega))]
  have hk : ∀ d : Fin 96, iblk m c 2 t (ix3 (⟨2 * g.val + p.val, by omega⟩ : Fin 16) (Fin.castAdd 32 d) (⟨v.val, by omega⟩ : Fin 512)) = K m c (ix4 g p v d) := fun d => by
    rw [iblk2_at, keys_at, dif_pos ⟨d.isLt, v.isLt⟩]
    exact congrArg₂ (fun x y => K m c (ix4 x y v d)) (Fin.ext (by show (2 * g.val + p.val) / 2 = g.val; omega)) (Fin.ext (by show (2 * g.val + p.val) % 2 = p.val; omega))
  refine (congrArg₂ (fun x y : EReal => x + y) ?_ (Finset.sum_eq_zero fun d _ => ?_)).trans (add_zero _)
  · refine Finset.sum_congr rfl fun d _ => ?_
    rw [hk d, mul_comm]
    exact congrArg (fun z : EReal => K m c (ix4 g p v d) * z) (query_block m c t p g a d)
  · rw [hz d, mul_zero]

variable {m c} in
/-- A slot's score in the block is the reference's. -/
theorem slot_block (hk : Keys m c) (g : Fin 8) (k : Fin 16) (a : Fin 256) :
    addf (half0 (whereOf (k0_pay15 (iblk m c 3 t))) (withinOf (k0_pay15 (iblk m c 3 t))) (k0_pay4 (F := Ideal) (iblk m c 0 t) (iblk m c 1 t)) (iblk m c 2 t))
        (half1 (whereOf (k0_pay16 (iblk m c 4 t))) (withinOf (k0_pay16 (iblk m c 4 t))) (k0_pay4 (F := Ideal) (iblk m c 0 t) (iblk m c 1 t)) (iblk m c 2 t)) (ix2 a (lane g k))
      = slots (X m c) (W m c) (K m c) (I1 m c) (I2 m c) (ix4 (batch t) (token t a) g k) := by
  obtain ⟨⟨v1, h1⟩, ⟨v2, h2⟩⟩ := hk (ix4 (batch t) (token t a) g k)
  have e1 : k0_pay15 (F := Ideal) (iblk m c 3 t) (ix2 a (lane g k)) = BitVec.ofNat 32 v1.val := by
    have hr : k0_pay15 (F := Ideal) (iblk m c 3 t) (ix2 a (lane g k)) = iblk m c 3 t (ix3 0 (lane g k) a) := by pointwise [k0_pay15]
    rw [hr, iblk3_at, ← h1]
    exact congrArg₂ (fun x y => I1 m c (ix4 (batch t) (token t a) x y)) (Fin.ext (lane_div g k)) (Fin.ext (by show (16 * g.val + k.val) % 16 = k.val; omega))
  have e2 : k0_pay16 (F := Ideal) (iblk m c 4 t) (ix2 a (lane g k)) = BitVec.ofNat 32 v2.val := by
    have hr : k0_pay16 (F := Ideal) (iblk m c 4 t) (ix2 a (lane g k)) = iblk m c 4 t (ix3 0 (lane g k) a) := by pointwise [k0_pay16]
    rw [hr, iblk4_at, ← h2]
    exact congrArg₂ (fun x y => I2 m c (ix4 (batch t) (token t a) x y)) (Fin.ext (lane_div g k)) (Fin.ext (by show (16 * g.val + k.val) % 16 = k.val; omega))
  refine congrArg₂ (fun x y : EReal => x + y) ?_ ?_
  · rw [half0_at _ _ _ a k v1 g e1, take_at _ _ _ _ _ _ v1 h1, score0_at]
    refine (score_block m c t 0 g a v1).trans (Finset.sum_congr rfl fun d _ => ?_)
    exact congrArg (fun z => (K m c (ix4 g 0 v1 d) : EReal) * query (X m c) (W m c) (ix4 (batch t) (token t a) g z)) (Fin.ext (by show 96 * 0 + d.val = d.val; omega))
  · rw [half1_at _ _ _ a k v2 g e2, take_at _ _ _ _ _ _ v2 h2, score1_at]
    refine (score_block m c t 1 g a v2).trans (Finset.sum_congr rfl fun d _ => ?_)
    exact congrArg (fun z => (K m c (ix4 g 1 v2 d) : EReal) * query (X m c) (W m c) (ix4 (batch t) (token t a) g z)) (Fin.ext (by show 96 * 1 + d.val = 96 + d.val; omega))

variable {m c} in
/-- A block's gates are the reference's. -/
theorem gates_block (hk : Keys m c) (g : Fin 8) (k : Fin 16) (a : Fin 256) :
    gatesBlock (F := Ideal) (iblk m c 0 t) (iblk m c 1 t) (iblk m c 2 t) (iblk m c 3 t) (iblk m c 4 t) (ix2 a (lane g k))
      = soft (slots (X m c) (W m c) (K m c) (I1 m c) (I2 m c)) (ix4 (batch t) (token t a) g k) := by
  unfold gatesBlock
  rw [gates_at, soft_at]
  unfold softmax
  simp only [slot_block t hk, expo_at]

variable {m c} in
/-- The same, with the lane split into its head and its slot. -/
theorem gates_block_lane (hk : Keys m c) (a : Fin 256) (l : Fin 128) :
    gatesBlock (F := Ideal) (iblk m c 0 t) (iblk m c 1 t) (iblk m c 2 t) (iblk m c 3 t) (iblk m c 4 t) (ix2 a l)
      = soft (slots (X m c) (W m c) (K m c) (I1 m c) (I2 m c)) (ix4 (batch t) (token t a) (⟨l.val / 16, by omega⟩ : Fin 8) (⟨l.val % 16, by omega⟩ : Fin 16)) := by
  rw [← gates_block t hk]
  exact congrArg (fun z => gatesBlock (F := Ideal) (iblk m c 0 t) (iblk m c 1 t) (iblk m c 2 t) (iblk m c 3 t) (iblk m c 4 t) (ix2 a z)) (Fin.ext (by show l.val = 16 * (l.val / 16) + l.val % 16; omega))

end Cert.KernelIdeal.Block
-- ==== Proof.Results.lean ====
/- What the three result arrays hold after the run: the blocks tile them, and each block is the
   reference's part, so each array is the reference's. -/
module

public import proofs.«01_k».proof.Proof.Equation

@[expose] public section

set_option maxRecDepth 65536

noncomputable section

namespace Cert.KernelIdeal.Block

open Cert.KernelIdeal Cert.KernelIdeal.Gen Cert.KernelIdeal.Body
open Idealize.ShloMosaic Idealize.ShloMosaic.TcCoe Idealize.ShloMosaic.Tactic Idealize.SL.Sem
open Cert.ReferenceIdeal.Ref (slots soft expert gate)

/-- The experts of token row `n`. -/
theorem expert_at (i1 i2 : IVec Cert.ReferenceIdeal.S4x1024x8x16 32) (n : Fin 4096) (l : Fin 128) :
    expert i1 i2 (ix2 n l) = IntOp.addi (IntOp.muli (i1 (ix4 (⟨n.val / 1024, by omega⟩ : Fin 4) (⟨n.val % 1024, by omega⟩ : Fin 1024) (⟨l.val / 16, by omega⟩ : Fin 8) (⟨l.val % 16, by omega⟩ : Fin 16))) 448#32)
      (i2 (ix4 (⟨n.val / 1024, by omega⟩ : Fin 4) (⟨n.val % 1024, by omega⟩ : Fin 1024) (⟨l.val / 16, by omega⟩ : Fin 8) (⟨l.val % 16, by omega⟩ : Fin 16))) := by
  pointwise [expert]

section Gate
variable (x : FVec Ideal Cert.ReferenceIdeal.S4x1024x1536 .bf16) (w : FVec Ideal Cert.ReferenceIdeal.S1536x8x192 .bf16) (k : FVec Ideal Cert.ReferenceIdeal.S8x2x448x96 .bf16)
  (i1 i2 : IVec Cert.ReferenceIdeal.S4x1024x8x16 32)

/-- The gates of token row `n`. -/
theorem gate_at (n : Fin 4096) (l : Fin 128) :
    gate x w k i1 i2 (ix2 n l) = soft (slots x w k i1 i2) (ix4 (⟨n.val / 1024, by omega⟩ : Fin 4) (⟨n.val % 1024, by omega⟩ : Fin 1024) (⟨l.val / 16, by omega⟩ : Fin 8) (⟨l.val % 16, by omega⟩ : Fin 16)) := by
  unfold gate
  generalize soft (slots x w k i1 i2) = u
  pointwise

/-- The gates, a row per slot of a batch's tokens. -/
def gateT : FVec Ideal S4x128x1024 .f32 := fun j =>
  soft (slots x w k i1 i2) (ix4 (j 0 : Fin 4) (j 2 : Fin 1024) (⟨(j 1 : Fin 128).val / 16, Nat.div_lt_of_lt_mul (j 1 : Fin 128).isLt⟩ : Fin 8) (⟨(j 1 : Fin 128).val % 16, Nat.mod_lt _ (by decide)⟩ : Fin 16))

/-- The gates of a batch's token `s`, a row per slot. -/
theorem gateT_at (b : Fin 4) (l : Fin 128) (s : Fin 1024) :
    gateT x w k i1 i2 (ix3 b l s) = soft (slots x w k i1 i2) (ix4 b s (⟨l.val / 16, by omega⟩ : Fin 8) (⟨l.val % 16, by omega⟩ : Fin 16)) := rfl

end Gate

/-- A row per slot turned back to a row per token, head by head: slot `n` of head `h` is slot `16 h + n`. -/
theorem back_at (g : FVec Ideal S4x128x1024 .f32) (b : Fin 4) (s : Fin 1024) (h : Fin 8) (n : Fin 16) :
    transpose S4x1024x8x16 [0, 3, 1, 2] (shapeCast S4x8x16x1024 g shapeCasts_S4x128x1024_S4x8x16x1024) transposes_S4x8x16x1024_S4x1024x8x16_0_3_1_2 (ix4 b s h n)
      = g (ix3 b (⟨h.val * 16 + n.val, by omega⟩ : Fin 128) s) := by
  pointwise

/-- The gates, a row per slot, turned back are the gates, head by head. -/
theorem gateT_back (x : FVec Ideal Cert.ReferenceIdeal.S4x1024x1536 .bf16) (w : FVec Ideal Cert.ReferenceIdeal.S1536x8x192 .bf16) (k : FVec Ideal Cert.ReferenceIdeal.S8x2x448x96 .bf16)
    (i1 i2 : IVec Cert.ReferenceIdeal.S4x1024x8x16 32) :
    transpose S4x1024x8x16 [0, 3, 1, 2] (shapeCast S4x8x16x1024 (gateT x w k i1 i2) shapeCasts_S4x128x1024_S4x8x16x1024) transposes_S4x8x16x1024_S4x1024x8x16_0_3_1_2
      = soft (slots x w k i1 i2) := by
  funext y
  idx_vars y
  refine (back_at _ y0 y1 y2 y3).trans ((gateT_at x w k i1 i2 y0 _ y1).trans ?_)
  generalize soft (slots x w k i1 i2) = u
  refine congrArg₂ (fun h n => u (ix4 y0 y1 h n)) (Fin.ext ?_) (Fin.ext ?_)
  · show (y2.val * 16 + y3.val) / 16 = y2.val
    omega
  · show (y2.val * 16 + y3.val) % 16 = y3.val
    omega

variable (m : (ℓ : Loc nD τ sig) → Buf (Elt Ideal) ℓ) (c : Dev nD)

/-- A block's experts are the reference's. -/
theorem expert_block (t : Fin cfg0.N) (a : Fin 256) (l : Fin 128) :
    k0_pay17 (F := Ideal) (iblk m c 3 t) (iblk m c 4 t) (ix2 a l) = expert (I1 m c) (I2 m c) (ix2 (row t a) l) := by
  have e : k0_pay17 (F := Ideal) (iblk m c 3 t) (iblk m c 4 t) (ix2 a l) = IntOp.addi (IntOp.muli (iblk m c 3 t (ix3 0 l a)) 448#32) (iblk m c 4 t (ix3 0 l a)) := by
    pointwise [k0_pay17, k0_pay15, k0_pay16]
  rw [e, iblk3_at, iblk4_at, expert_at, (row_split t a (Nat.div_lt_of_lt_mul (row t a).isLt) (Nat.mod_lt _ (by decide))).1, (row_split t a (Nat.div_lt_of_lt_mul (row t a).isLt) (Nat.mod_lt _ (by decide))).2]

/-- The first result: every slot's expert. -/
theorem result5 : (dats m 0 c).arrAt 5 cfg0.N = expert (I1 m c) (I2 m c) := by
  refine (dats m 0 c).arrAt_eq_of_covers 5 _ (by decide +kernel) fun t hf y => ?_
  blk_simp
  rw [after0_5]
  unfold outsAt0
  rw [out5_eq]
  idx_vars y
  exact (expert_block m c t y0 y1).trans (congrArg (expert (I1 m c) (I2 m c)) (emb5 t y0 y1)).symm

variable {m c} in
/-- The second result: every slot's gate, a row per token. -/
theorem result6 (hk : Keys m c) : (dats m 0 c).arrAt 6 cfg0.N = gate (X m c) (W m c) (K m c) (I1 m c) (I2 m c) := by
  refine (dats m 0 c).arrAt_eq_of_covers 6 _ (by decide +kernel) fun t hf y => ?_
  blk_simp
  rw [after0_6]
  unfold outsAt0
  rw [out6_eq]
  idx_vars y
  refine Eq.trans ?_ (congrArg (gate (X m c) (W m c) (K m c) (I1 m c) (I2 m c)) (emb6 t y0 y1)).symm
  rw [gate_at, (row_split t y0 (Nat.div_lt_of_lt_mul (row t y0).isLt) (Nat.mod_lt _ (by decide))).1, (row_split t y0 (Nat.div_lt_of_lt_mul (row t y0).isLt) (Nat.mod_lt _ (by decide))).2]
  exact gates_block_lane t hk y0 y1

variable {m c} in
/-- The call's third array: every slot's gate, a row per slot. -/
theorem result7 (hk : Keys m c) : (dats m 0 c).arrAt 7 cfg0.N = gateT (X m c) (W m c) (K m c) (I1 m c) (I2 m c) := by
  refine (dats m 0 c).arrAt_eq_of_covers 7 _ (by decide +kernel) fun t hf y => ?_
  blk_simp
  rw [after0_7]
  unfold outsAt0
  rw [out7_eq]
  idx_vars y
  obtain rfl : y0 = 0 := Subsingleton.elim _ _
  refine Eq.trans ?_ (congrArg (gateT (X m c) (W m c) (K m c) (I1 m c) (I2 m c)) (emb7 t y2 y1)).symm
  rw [gateT_at, ← gates_block_lane t hk y2 y1]
  generalize gatesBlock (F := Ideal) (iblk m c 0 t) (iblk m c 1 t) (iblk m c 2 t) (iblk m c 3 t) (iblk m c 4 t) = u
  pointwise

variable {m c} in
/-- The third result: every slot's gate, head by head. -/
theorem result7_back (hk : Keys m c) : transpose S4x1024x8x16 [0, 3, 1, 2] (shapeCast S4x8x16x1024 ((dats m 0 c).arrAt 7 cfg0.N : Vec Ideal S4x128x1024 .f32) shapeCasts_S4x128x1024_S4x8x16x1024) transposes_S4x8x16x1024_S4x1024x8x16_0_3_1_2
    = soft (slots (X m c) (W m c) (K m c) (I1 m c) (I2 m c)) := by
  rw [result7 hk]
  exact gateT_back _ _ _ _ _

end Cert.KernelIdeal.Block
-- ==== Proof.lean ====
module

public import proofs.«01_k».proof.Defs
public import proofs.«01_k».proof.Proof.Gen.Kernel
public import proofs.«01_k».proof.Proof.KernelFrame
public import proofs.«01_k».proof.Proof.Gen.KernelIdeal
public import proofs.«01_k».proof.Proof.IdealFrame
public import proofs.«01_k».proof.Proof.Gen.ReferenceIdeal
public import proofs.«01_k».proof.Proof.Gen.ReferenceIdeal.Run
public import proofs.«01_k».proof.Proof.Gen.Pack
public import proofs.«01_k».proof.Proof.PackFrame
public import proofs.«01_k».proof.Proof.Gen.PackIdeal
public import proofs.«01_k».proof.Proof.PackValue
public import proofs.«01_k».proof.Proof.Gen.PackReferenceIdeal
public import proofs.«01_k».proof.Proof.Gen.PackReferenceIdeal.Run
public import proofs.«01_k».proof.Proof.PackRef
public import proofs.«01_k».proof.Proof.Pre
public import proofs.«01_k».proof.Proof.Results
public import Idealize.ShloMosaic.Lib.Bf16PairInverse
public import Idealize.ShloMosaic.Lib.Claim

@[expose] public section

noncomputable section

namespace Cert.Proof

open Idealize.ShloMosaic Idealize.SL.Sem

/-- The kernel runs to the end without a fault and leaves its arguments and every counter as they were. -/
theorem frame_k : Cert.quiescent_Kernel (hKernel := Cert.Kernel.Gen.facts) :=
  fun m ρ _ => Cert.Kernel.Body.frame m ρ

/-- The same of the kernel at the ideal instance. -/
theorem frame_ki : Cert.quiescent_KernelIdeal (hKernelIdeal := Cert.KernelIdeal.Gen.facts) :=
  fun m ρ _ => Cert.KernelIdeal.Body.frame m ρ

/-- The same of the reference at the ideal instance. -/
theorem frame_ri : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Every rewrite of the ideal pass is an instance of its rule: the packed words are the two bf16 values side by side. -/
theorem preserves : Cert.preserves_Kernel_KernelIdeal :=
  ⟨IdealRules.bf16_pair.bufferStatement _ _, IdealRules.bf16_pair.bufferStatement _ _,
    IdealRules.bf16_pair.halfStatement _, IdealRules.bf16_pair.statement _ _⟩

/-- From equal arguments whose indices are all keys' numbers, the kernel and the reference end with equal results. -/
theorem algebraic : Cert.algebraic_KernelIdeal_ReferenceIdeal_pre_pre (hKernelIdeal := Cert.KernelIdeal.Gen.facts)
    (hReferenceIdeal := Cert.ReferenceIdeal.Gen.facts) (hPre_pre := Cert.Pre_pre.facts) := fun m g m' g' hpre hargs =>
  have hk : ∀ c, Cert.KernelIdeal.Block.Keys m c := fun c i => Cert.Pre_pre.keys (hF := Cert.Pre_pre.facts) _ _ _ _ _ (hpre c) i
  ⟨fun c => Cert.ReferenceIdeal.Ref.expert (Cert.KernelIdeal.Block.I1 m c) (Cert.KernelIdeal.Block.I2 m c),
    fun c => Cert.ReferenceIdeal.Ref.gate (Cert.KernelIdeal.Block.X m c) (Cert.KernelIdeal.Block.W m c) (Cert.KernelIdeal.Block.K m c) (Cert.KernelIdeal.Block.I1 m c) (Cert.KernelIdeal.Block.I2 m c),
    fun c => Cert.ReferenceIdeal.Ref.soft (Cert.ReferenceIdeal.Ref.slots (Cert.KernelIdeal.Block.X m c) (Cert.KernelIdeal.Block.W m c) (Cert.KernelIdeal.Block.K m c) (Cert.KernelIdeal.Block.I1 m c) (Cert.KernelIdeal.Block.I2 m c)),
    (θ_run Cert.KernelIdeal.defs _ _).mono (fun _ h c => ⟨(h c).1.trans (Cert.KernelIdeal.Block.result5 m c), (h c).2.1.trans (Cert.KernelIdeal.Block.result6 (hk c)),
      (h c).2.2.1.trans (Cert.KernelIdeal.Block.result7_back (hk c)), (h c).2.2.2⟩) (Cert.KernelIdeal.Body.run_blocks (F := Ideal) m g),
    (θ_run Cert.ReferenceIdeal.defs _ _).mono (fun _ h c => by
      obtain ⟨a0, a1, a2, a3, a4⟩ := hargs c
      obtain ⟨r0, r1, r2, r3⟩ := h c
      refine ⟨r0.trans ?_, r1.trans ((Cert.ReferenceIdeal.Ref.out1_eq m' c).trans ?_), r2.trans ((Cert.ReferenceIdeal.Ref.out2_eq m' c).trans ?_), r3⟩
      · rw [a3, a4]; rfl
      · rw [a0, a1, a2, a3, a4]
      · rw [a0, a1, a2, a3, a4]) (Cert.ReferenceIdeal.Value.run (F := Ideal) m' g')⟩

/-- The packing kernel runs to the end without a fault and leaves its arguments and every counter as they were. -/
theorem frame_p : Cert.quiescent_Pack (hPack := Cert.Pack.Gen.facts) :=
  fun m ρ _ => Cert.Pack.Body.frame m ρ

/-- The same of it at the ideal instance. -/
theorem frame_pi : Cert.quiescent_PackIdeal (hPackIdeal := Cert.PackIdeal.Gen.facts) :=
  fun m ρ _ => Cert.PackIdeal.Body.frame m ρ

/-- The same of its reference at the ideal instance. -/
theorem frame_pr : Cert.quiescent_PackReferenceIdeal (hPackReferenceIdeal := Cert.PackReferenceIdeal.Gen.facts) := fun m ρ _ =>
  (θ_run Cert.PackReferenceIdeal.defs _ _).mono (fun r h => ⟨fun c => (h c).2,
      Idealize.ShloMosaic.sem_eq_zero_of_no_sems (by decide) r.2⟩)
    (Cert.PackReferenceIdeal.Value.run (F := Ideal) m ρ)

/-- From equal code tables the packing kernel and its reference end with equal words. -/
theorem algebraic_pack : Cert.algebraic_PackIdeal_PackReferenceIdeal (hPackIdeal := Cert.PackIdeal.Gen.facts)
    (hPackReferenceIdeal := Cert.PackReferenceIdeal.Gen.facts) := fun m g m' g' _ hargs =>
  ⟨fun c => Cert.PackIdeal.Trip.packed (R := 200704) (N := 1204224) (by omega) (m ((c.tc : Thread Cert.PackIdeal.nD Cert.PackIdeal.τ).loc Cert.PackIdeal.main_arg0)) (m ((c.tc : Thread Cert.PackIdeal.nD Cert.PackIdeal.τ).loc Cert.PackIdeal.main_arg1)),
    (θ_run Cert.PackIdeal.defs _ _).mono (fun _ h c => ⟨(h c).1.trans (Cert.PackIdeal.Block.result m c), (h c).2⟩) (Cert.PackIdeal.Body.run_blocks (F := Ideal) m g),
    (θ_run Cert.PackReferenceIdeal.defs _ _).mono (fun _ h c => by
      obtain ⟨a0, a1⟩ := hargs c
      obtain ⟨r0, r1⟩ := h c
      refine ⟨r0.trans ((Cert.PackReferenceIdeal.Ref.out_packed m' c).trans ?_), r1⟩
      rw [a0, a1]) (Cert.PackReferenceIdeal.Value.run (F := Ideal) m' g')⟩

theorem claim : Cert.Claim :=
  ⟨Cert.Kernel.Gen.facts, Cert.KernelIdeal.Gen.facts, Cert.ReferenceIdeal.Gen.facts, Cert.Pack.Gen.facts, Cert.PackIdeal.Gen.facts, Cert.PackReferenceIdeal.Gen.facts, Cert.Pre_pre.facts,
    frame_k, frame_ki, fun m ρ _ => frame_ki m ρ trivial, frame_ri, fun m ρ _ => frame_ri m ρ trivial, frame_p, frame_pi, frame_pr,
    preserves, algebraic, trivial, algebraic_pack⟩

end Cert.Proof

end
